-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "sqrt_beta" .bf16 0x3E22#16 ((Real.sqrt (13421773 / 536870912) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  bcast_S_S1024x1024 : S_.BroadcastsInDim S1024x1024 (![] : Fin 0 → Fin S1024x1024.rank)

variable [Facts]

def fn {F : FTy → Type} [FloatOps F] (main_arg0 : FVec F S4x4096x1024 .f32) (main_arg1 : FVec F S1024x1024 .f32) (main_arg2 : FVec F S1024x1024 .f32) (main_arg3 : FVec F S1024x1024 .f32) (main_arg4 : FVec F S1024x1024 .f32) : IVec S4x4096x1024 1 × IVec S1024x1024 1 × IVec S1024x1024 1 × IVec S1024x1024 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  (main_v2, main_v5, main_v8, main_v11)
-- ==== Kernel.lean ====
abbrev S4x4096x1024 : Shape := ⟨3, ![4, 4096, 1024]⟩
abbrev S1024x1024 : Shape := ⟨2, ![1024, 1024]⟩
abbrev S4096x4x1024 : Shape := ⟨3, ![4096, 4, 1024]⟩
abbrev S16384x1024 : Shape := ⟨2, ![16384, 1024]⟩
abbrev S1024x3072 : Shape := ⟨2, ![1024, 3072]⟩
abbrev S16384x3072 : Shape := ⟨2, ![16384, 3072]⟩
abbrev S131072x256 : Shape := ⟨2, ![131072, 256]⟩
abbrev S2048x128 : Shape := ⟨2, ![2048, 128]⟩
abbrev S2048x256 : Shape := ⟨2, ![2048, 256]⟩
abbrev S128x256 : Shape := ⟨2, ![128, 256]⟩
abbrev S128x128 : Shape := ⟨2, ![128, 128]⟩
abbrev S128x64 : Shape := ⟨2, ![128, 64]⟩
abbrev S256x256 : Shape := ⟨2, ![256, 256]⟩
abbrev S1024x256 : Shape := ⟨2, ![1024, 256]⟩
abbrev S1024x512 : Shape := ⟨2, ![1024, 512]⟩
abbrev S2x64x256 : Shape := ⟨3, ![2, 64, 256]⟩
abbrev S1x64x256 : Shape := ⟨3, ![1, 64, 256]⟩
abbrev S64x256 : Shape := ⟨2, ![64, 256]⟩
abbrev S512x256 : Shape := ⟨2, ![512, 256]⟩
abbrev S64x64 : Shape := ⟨2, ![64, 64]⟩
abbrev S128x512 : Shape := ⟨2, ![128, 512]⟩

abbrev nBuf : Space → Nat
  | .hbm => 21
  | .vmem => 32
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4096x4x1024, .f32⟩
  | .hbm, ⟨6, _⟩ => ⟨S16384x1024, .f32⟩
  | .hbm, ⟨7, _⟩ => ⟨S16384x1024, .bf16⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x3072, .f32⟩
  | .hbm, ⟨12, _⟩ => ⟨S1024x3072, .bf16⟩
  | .hbm, ⟨13, _⟩ => ⟨S16384x3072, .bf16⟩
  | .hbm, ⟨14, _⟩ => ⟨S131072x256, .bf16⟩
  | .hbm, ⟨15, _⟩ => ⟨S16384x1024, .bf16⟩
  | .hbm, ⟨16, _⟩ => ⟨S1024x1024, .f32⟩
  | .hbm, ⟨17, _⟩ => ⟨S1024x1024, .bf16⟩
  | .hbm, ⟨18, _⟩ => ⟨S16384x1024, .f32⟩
  | .hbm, ⟨19, _⟩ => ⟨S4096x4x1024, .f32⟩
  | .hbm, ⟨20, _⟩ => ⟨S4x4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x256, .bf16⟩
  | .local _ .vmem, ⟨11, _⟩ => ⟨S2048x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | .local _ .vmem, ⟨26, _⟩ => ⟨S2x64x256, .f32⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .f32⟩
  | .local _ .vmem, ⟨31, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg2_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 16], ![false, false]⟩

def cc2_transform_0 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi v0 c0_i32
  let c16_i32 : BitVec 32 := 16#32
  let v2 : BitVec 32 := Scalar.muli v1 c16_i32
  let v3 : BitVec 32 := Scalar.addi v2 arg1
  let c0_i32_0 : BitVec 32 := 0#32
  let c0_i32_1 : BitVec 32 := 0#32
  ![v3.toNat, c0_i32_0.toNat]

def cc2_transform_1 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.addi v0 c1_i32
  let c16_i32 : BitVec 32 := 16#32
  let v2 : BitVec 32 := Scalar.muli v1 c16_i32
  let v3 : BitVec 32 := Scalar.addi v2 arg1
  let c0_i32 : BitVec 32 := 0#32
  let c0_i32_0 : BitVec 32 := 0#32
  ![v3.toNat, c0_i32.toNat]

def cc2_transform_2 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c2_i32 : BitVec 32 := 2#32
  let v1 : BitVec 32 := Scalar.addi v0 c2_i32
  let c16_i32 : BitVec 32 := 16#32
  let v2 : BitVec 32 := Scalar.muli v1 c16_i32
  let v3 : BitVec 32 := Scalar.addi v2 arg1
  let c0_i32 : BitVec 32 := 0#32
  let c0_i32_0 : BitVec 32 := 0#32
  ![v3.toNat, c0_i32.toNat]

def cc2_transform_3 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.addi v0 c3_i32
  let c16_i32 : BitVec 32 := 16#32
  let v2 : BitVec 32 := Scalar.muli v1 c16_i32
  let v3 : BitVec 32 := Scalar.addi v2 arg1
  let c0_i32 : BitVec 32 := 0#32
  let c0_i32_0 : BitVec 32 := 0#32
  ![v3.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1024x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1024x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1024x512 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨2, ![16, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== KernelIdeal.lean ====
variable {F : FTy → Type} [FloatOps F] [Named F]
def κ : String → Option EReal := fun
  | "sqrt_beta" => some ((Real.sqrt (13421773 / 536870912) : ℝ) : EReal)
  | _ => none
-- ==== ReferenceIdeal.lean ====
abbrev S4x4096x1024 : Shape := ⟨3, ![4, 4096, 1024]⟩
abbrev S1024x1024 : Shape := ⟨2, ![1024, 1024]⟩
abbrev S4x4096x16x64 : Shape := ⟨4, ![4, 4096, 16, 64]⟩
abbrev S4096x4x16x64 : Shape := ⟨4, ![4096, 4, 16, 64]⟩
abbrev S_ : Shape := ⟨0, ![]⟩
abbrev S16x64x64 : Shape := ⟨3, ![16, 64, 64]⟩
abbrev S1x4x16x64 : Shape := ⟨4, ![1, 4, 16, 64]⟩
abbrev S4x16x64 : Shape := ⟨3, ![4, 16, 64]⟩
abbrev S16x4x64 : Shape := ⟨3, ![16, 4, 64]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4x4096x1024, .f32⟩
  | .hbm, ⟨7, _⟩ => ⟨S4x4096x16x64, .f32⟩
  | .hbm, ⟨8, _⟩ => ⟨S1024x1024, .f32⟩
  | .hbm, ⟨9, _⟩ => ⟨S4x4096x1024, .f32⟩
  | .hbm, ⟨10, _⟩ => ⟨S4x4096x16x64, .f32⟩
  | .hbm, ⟨11, _⟩ => ⟨S1024x1024, .f32⟩
  | .hbm, ⟨12, _⟩ => ⟨S4x4096x1024, .f32⟩
  | .hbm, ⟨13, _⟩ => ⟨S4x4096x16x64, .f32⟩
  | .hbm, ⟨14, _⟩ => ⟨S4096x4x16x64, .f32⟩
  | .hbm, ⟨15, _⟩ => ⟨S4096x4x16x64, .f32⟩
  | .hbm, ⟨16, _⟩ => ⟨S4096x4x16x64, .f32⟩
  | .hbm, ⟨17, _⟩ => ⟨S_, .f32⟩
  | .hbm, ⟨18, _⟩ => ⟨S16x64x64, .f32⟩
  | .hbm, ⟨19, _⟩ => ⟨S_, .f32⟩
  | .hbm, ⟨20, _⟩ => ⟨S4096x4x16x64, .f32⟩
  | .hbm, ⟨21, _⟩ => ⟨S_, .i32⟩
  | .hbm, ⟨22, _⟩ => ⟨S4096x4x16x64, .f32⟩
  | .hbm, ⟨23, _⟩ => ⟨S4096x4x16x64, .f32⟩
  | .hbm, ⟨24, _⟩ => ⟨S4096x4x16x64, .f32⟩
  | .hbm, ⟨25, _⟩ => ⟨S_, .i32⟩
  | .hbm, ⟨26, _⟩ => ⟨S16x64x64, .f32⟩
  | .hbm, ⟨27, _⟩ => ⟨S4096x4x16x64, .f32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1x4x16x64, .f32⟩
  | .hbm, ⟨34, _⟩ => ⟨S4x16x64, .f32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S1x4x16x64, .f32⟩
  | .hbm, ⟨39, _⟩ => ⟨S4x16x64, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x4x16x64, .f32⟩
  | .hbm, ⟨44, _⟩ => ⟨S4x16x64, .f32⟩
  | .hbm, ⟨45, _⟩ => ⟨S16x4x64, .f32⟩
  | .hbm, ⟨46, _⟩ => ⟨S4x16x64, .f32⟩
  | .hbm, ⟨47, _⟩ => ⟨S4x16x64, .f32⟩
  | .hbm, ⟨48, _⟩ => ⟨S16x64x64, .f32⟩
  | .hbm, ⟨49, _⟩ => ⟨S_, .f32⟩
  | .hbm, ⟨50, _⟩ => ⟨S16x64x64, .f32⟩
  | .hbm, ⟨51, _⟩ => ⟨S16x64x64, .f32⟩
  | .hbm, ⟨52, _⟩ => ⟨S_, .f32⟩
  | .hbm, ⟨53, _⟩ => ⟨S16x64x64, .f32⟩
  | .hbm, ⟨54, _⟩ => ⟨S16x64x64, .f32⟩
  | .hbm, ⟨55, _⟩ => ⟨S16x64x64, .f32⟩
  | .hbm, ⟨56, _⟩ => ⟨S16x4x64, .f32⟩
  | .hbm, ⟨57, _⟩ => ⟨S4x16x64, .f32⟩
  | .hbm, ⟨58, _⟩ => ⟨S1x4x16x64, .f32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S4096x4x16x64, .f32⟩
  | .hbm, ⟨63, _⟩ => ⟨S_, .i32⟩
  | .hbm, ⟨64, _⟩ => ⟨S_, .i32⟩
  | .hbm, ⟨65, _⟩ => ⟨S4x4096x16x64, .f32⟩
  | .hbm, ⟨66, _⟩ => ⟨S4x4096x1024, .f32⟩
  | .hbm, ⟨67, _⟩ => ⟨S1024x1024, .f32⟩
  | .hbm, ⟨68, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_c : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev main_v14_5 : Ref sig .tc := ⟨.hbm, 27, rfl⟩
abbrev main_while0c_c_6 : Ref sig .tc := ⟨.hbm, 28, rfl⟩
abbrev main_while0c_v19 : Ref sig .tc := ⟨.hbm, 29, rfl⟩
abbrev main_while0b_call0_c : Ref sig .tc := ⟨.hbm, 30, rfl⟩
abbrev main_while0b_call0_c_0 : Ref sig .tc := ⟨.hbm, 31, rfl⟩
abbrev main_while0b_call0_c_1 : Ref sig .tc := ⟨.hbm, 32, rfl⟩
abbrev main_while0b_call0_v0 : Ref sig .tc := ⟨.hbm, 33, rfl⟩
abbrev main_while0b_v19 : Ref sig .tc := ⟨.hbm, 34, rfl⟩
abbrev main_while0b_call1_c : Ref sig .tc := ⟨.hbm, 35, rfl⟩
abbrev main_while0b_call1_c_0 : Ref sig .tc := ⟨.hbm, 36, rfl⟩
abbrev main_while0b_call1_c_1 : Ref sig .tc := ⟨.hbm, 37, rfl⟩
abbrev main_while0b_call1_v0 : Ref sig .tc := ⟨.hbm, 38, rfl⟩
abbrev main_while0b_v20 : Ref sig .tc := ⟨.hbm, 39, rfl⟩
abbrev main_while0b_call2_c : Ref sig .tc := ⟨.hbm, 40, rfl⟩
abbrev main_while0b_call2_c_0 : Ref sig .tc := ⟨.hbm, 41, rfl⟩
abbrev main_while0b_call2_c_1 : Ref sig .tc := ⟨.hbm, 42, rfl⟩
abbrev main_while0b_call2_v0 : Ref sig .tc := ⟨.hbm, 43, rfl⟩
abbrev main_while0b_v21 : Ref sig .tc := ⟨.hbm, 44, rfl⟩
abbrev main_while0b_v22 : Ref sig .tc := ⟨.hbm, 45, rfl⟩
abbrev main_while0b_v23 : Ref sig .tc := ⟨.hbm, 46, rfl⟩
abbrev main_while0b_v24 : Ref sig .tc := ⟨.hbm, 47, rfl⟩
abbrev main_while0b_v25 : Ref sig .tc := ⟨.hbm, 48, rfl⟩
abbrev main_while0b_cst_6 : Ref sig .tc := ⟨.hbm, 49, rfl⟩
abbrev main_while0b_v26 : Ref sig .tc := ⟨.hbm, 50, rfl⟩
abbrev main_while0b_v27 : Ref sig .tc := ⟨.hbm, 51, rfl⟩
abbrev main_while0b_cst_7 : Ref sig .tc := ⟨.hbm, 52, rfl⟩
abbrev main_while0b_v28 : Ref sig .tc := ⟨.hbm, 53, rfl⟩
abbrev main_while0b_v29 : Ref sig .tc := ⟨.hbm, 54, rfl⟩
abbrev main_while0b_v30 : Ref sig .tc := ⟨.hbm, 55, rfl⟩
abbrev main_while0b_v31 : Ref sig .tc := ⟨.hbm, 56, rfl⟩
abbrev main_while0b_v32 : Ref sig .tc := ⟨.hbm, 57, rfl⟩
abbrev main_while0b_call3_v0 : Ref sig .tc := ⟨.hbm, 58, rfl⟩
abbrev main_while0b_call3_c : Ref sig .tc := ⟨.hbm, 59, rfl⟩
abbrev main_while0b_call3_c_0 : Ref sig .tc := ⟨.hbm, 60, rfl⟩
abbrev main_while0b_call3_c_1 : Ref sig .tc := ⟨.hbm, 61, rfl⟩
abbrev main_while0b_v33 : Ref sig .tc := ⟨.hbm, 62, rfl⟩
abbrev main_while0b_c_8 : Ref sig .tc := ⟨.hbm, 63, rfl⟩
abbrev main_while0b_v34 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩

abbrev nD : Nat := 1
abbrev τ : Topo := Topo.v7x

variable {F : FTy → Type} [FloatOps F]

abbrev main_while0_count : Scf.Loop 32 := ⟨0#32, 4096#32, 1#32⟩
-- ==== Proof.KernelIdeal.Proj.lean ====
/- The frames of the two projections (the first and the last pipelined call). -/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x1024 := Rect.unit (s := S1024x1024) ![0, 0] S1024x1024.size inb_S1024x1024_S1024x1024_0_0

def out0_2 (x0 : Vec F S1024x1024 .bf16) (x1 : Vec F S1024x1024 .bf16) : Vec F S1024x1024 .bf16 :=
  View.canon [⟨r0_0, k0_pay1 (View.ld x0 r0_0) (View.ld x1 r0_0)⟩]

theorem cover0_2 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

set_option maxHeartbeats 1000000 in
theorem sound_kernel0 (c : Dev nD) (E : Set ℕ) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole)
    (x0 : Vec F S1024x1024 .bf16) (x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0_proj_mm i arg2 harg2 arg3 harg3 arg4 harg4) K := by
  simp only [cc0_proj_mm_eq_skeleton]; unfold cc0_proj_mm_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S1024x1024 := Rect.unit (s := S1024x1024) ![0, 0] S1024x1024.size inb_S1024x1024_S1024x1024_0_0

def out3_2 (x0 : Vec F S1024x1024 .bf16) (x1 : Vec F S1024x1024 .bf16) : Vec F S1024x1024 .f32 :=
  View.canon [⟨r3_0, k3_pay1 (View.ld x0 r3_0) (View.ld x1 r3_0)⟩]

theorem cover3_2 (p0 : Vec F S1024x1024 .f32) (y : S1024x1024.Idx) :
    ∃ pc ∈ ([⟨r3_0, p0⟩] : List (View.Piece (Elt F) S1024x1024 .f32)), y ∈ pc.1.set :=
  View.cover_of_tiled [⟨r3_0, p0⟩] S1024x1024.size (by rfl) y

set_option maxHeartbeats 1000000 in
theorem sound_kernel3 (c : Dev nD) (E : Set ℕ) (i : grid3.Coords) (arg2 : Memref sig .tc .vmem S1024x1024 .bf16) (harg2 : arg2.IsWhole) (arg3 : Memref sig .tc .vmem S1024x1024 .bf16) (harg3 : arg3.IsWhole) (arg4 : Memref sig .tc .vmem S1024x1024 .f32) (harg4 : arg4.IsWhole)
    (x0 : Vec F S1024x1024 .bf16) (x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 x0 x1)) -∗ K ⟨⟩))
      ⊢ wp frame (wpE (defs₀ (F := F)) Variants.none c none) E (cc3_proj_mm i arg2 harg2 arg3 harg3 arg4 harg4) K := by
  simp only [cc3_proj_mm_eq_skeleton]; unfold cc3_proj_mm_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Whole

end
-- ==== Proof.KernelIdeal.Chunk.lean ====
/- The values of `chunk_solve`'s body, one chunk of 128 rows (32 steps of 4 batches) of a pair of heads at a time:
   the two masked Gram matrices, the inverse of the unit lower triangular matrix built by doubling, and its product
   with the values and the keys. Stated over any float values. -/
module

public import proofs.«01_k».proof.Proof.Gen.KernelIdeal.Skeleton

@[expose] public section

noncomputable section

namespace Cert.KernelIdeal.Whole

open Cert.KernelIdeal.Gen Idealize.ShloMosaic

variable {F : FTy → Type} [FloatOps F] [Named F]

/-- The constant the keys are scaled by before their Gram matrix: the root of the learning rate over the batch. -/
def sqrtBeta : F .bf16 := Named.named κ "sqrt_beta" 0x3E22#16

/-- Row index of a packed pair of 128×128 matrices. -/
def rowI : IVec S128x256 32 := iota .tc S128x256 32 [0] iota_S128x256_d0_w32
/-- Lane index of a packed pair. -/
def colI : IVec S128x256 32 := iota .tc S128x256 32 [1] iota_S128x256_d1_w32
/-- Column index within a matrix of the pair. -/
def colM : IVec S128x256 32 := andi colI (broadcast S128x256 127#32)

/-- The mask of the entries whose column's step is strictly before the row's step. -/
def strictP : IVec S128x256 1 :=
  cmpi .slt (shrsi colM (broadcast S128x256 2#32)) (shrsi rowI (broadcast S128x256 2#32))

/-- The identity of both matrices of a pair. -/
def identP : FVec F S128x256 .bf16 :=
  truncf .bf16 (select (cmpi .eq colM rowI) (broadcast S128x256 (Scalar.ofBits .f32 0x3F800000#32))
    (broadcast S128x256 (Scalar.ofBits .f32 0x00000000#32))) bitsLt_bf16_f32

/-- The lanes of the pair's first matrix. -/
def loHalf : IVec S128x256 1 := cmpi .slt colI (broadcast S128x256 128#32)

/-- The lanes whose 64-lane group is even. -/
def even64 : IVec S128x256 1 :=
  cmpi .eq (andi (shrsi colI (broadcast S128x256 6#32)) (broadcast S128x256 1#32)) (broadcast S128x256 0#32)

/-- The entries below the diagonal block: the row's group of `2 ^ sh` is odd and the column's is the one before it. -/
def oddPair (sh : BitVec 32) : IVec S128x256 1 :=
  andi (cmpi .eq (andi (shrsi rowI (broadcast S128x256 sh)) (broadcast S128x256 1#32)) (broadcast S128x256 1#32))
    (cmpi .eq (shrsi colM (broadcast S128x256 sh)) (subi (shrsi rowI (broadcast S128x256 sh)) (broadcast S128x256 1#32)))

/-- A pair of matrices side by side, laid out block diagonally. -/
def blockDiag (t : FVec F S128x256 .bf16) : FVec F S256x256 .bf16 :=
  concatenate S256x256 0 [⟨S128x256, select loHalf t (broadcast S128x256 (Scalar.ofBits .bf16 0x0000#16))⟩,
    ⟨S128x256, select loHalf (broadcast S128x256 (Scalar.ofBits .bf16 0x0000#16)) t⟩]
    concatenates_S128x256_S128x256_S256x256_d0

/-- One head's Gram matrix of scaled keys. -/
def gram1 (k : FVec F S128x64 .bf16) : FVec F S128x128 .f32 :=
  matmul dot_S128x64_S128x64_S128x128_1_1_0_0_n_n none (mulf k (broadcast S128x64 sqrtBeta))
    (mulf k (broadcast S128x64 sqrtBeta)) (constant S128x128 .f32 0x00000000#32)

/-- The two heads' Gram matrices, side by side. -/
def gram (k : Vec F S128x128 .bf16) : FVec F S128x256 .f32 :=
  concatenate S128x256 1
    [⟨S128x128, gram1 (extractStridedSlice S128x64 ![0, 0] (shapeCast S128x128 k shapeCasts_S128x128_S128x128) slices_S128x128_o0_0_S128x64)⟩,
     ⟨S128x128, gram1 (extractStridedSlice S128x64 ![0, 64] (shapeCast S128x128 k shapeCasts_S128x128_S128x128) slices_S128x128_o0_64_S128x64)⟩]
    concatenates_S128x128_S128x128_S128x256_d1

/-- A pair of matrices where the mask holds, and zero elsewhere. -/
def masked (p : IVec S128x256 1) (g : FVec F S128x256 .f32) : FVec F S128x256 .bf16 :=
  truncf .bf16 (select p g (broadcast S128x256 (Scalar.ofBits .f32 0x00000000#32))) bitsLt_bf16_f32

/-- The strictly lower parts, block diagonally. -/
def strictD (k : Vec F S128x128 .bf16) : FVec F S256x256 .bf16 := blockDiag (masked strictP (gram k))

/-- A product of a pair by a block diagonal matrix, rounded. -/
def pairMul (t : FVec F S128x256 .bf16) (d : FVec F S256x256 .bf16) : FVec F S128x256 .bf16 :=
  truncf .bf16 (matmul dot_S128x256_S256x256_S128x256_1_0_0_1_n_n none t d (constant S128x256 .f32 0x00000000#32)) bitsLt_bf16_f32

/-- One doubling of the inverse of the diagonal blocks of `I + A`: off-diagonal blocks `-(T A T)`. -/
def double (sh : BitVec 32) (a : FVec F S256x256 .bf16) (t : FVec F S128x256 .bf16) : FVec F S128x256 .bf16 :=
  subf t (select (oddPair sh) (pairMul (pairMul t a) (blockDiag t))
    (broadcast S128x256 (Scalar.ofBits .bf16 0x0000#16)))

/-- The inverse of the diagonal blocks of eight rows. -/
def startT (k : Vec F S128x128 .bf16) : FVec F S128x256 .bf16 := subf identP (masked (oddPair 2#32) (gram k))

/-- The inverses of both heads' `I + A`. -/
def solvedT (k : Vec F S128x128 .bf16) : FVec F S128x256 .bf16 :=
  double 6#32 (strictD k) (double 5#32 (strictD k) (double 4#32 (strictD k) (double 3#32 (strictD k) (startT k))))

/-- The values and keys of the two heads, arranged so that each head's columns meet its own inverse. -/
def rhsD (k v : Vec F S128x128 .bf16) : FVec F S256x256 .bf16 :=
  have vk : FVec F S128x256 .bf16 := concatenate S128x256 1
    [⟨S128x128, shapeCast S128x128 v shapeCasts_S128x128_S128x128⟩, ⟨S128x128, shapeCast S128x128 k shapeCasts_S128x128_S128x128⟩]
    concatenates_S128x128_S128x128_S128x256_d1
  concatenate S256x256 0 [⟨S128x256, select even64 vk (broadcast S128x256 (Scalar.ofBits .bf16 0x0000#16))⟩,
    ⟨S128x256, select even64 (broadcast S128x256 (Scalar.ofBits .bf16 0x0000#16)) vk⟩]
    concatenates_S128x256_S128x256_S256x256_d0

/-- What one chunk writes: the inverses times the values and the keys. -/
def chunkWX (k v : Vec F S128x128 .bf16) : FVec F S128x256 .bf16 := pairMul (solvedT k) (rhsD k v)

end Cert.KernelIdeal.Whole

end
-- ==== Proof.KernelIdeal.Solve.lean ====
/- The frame of the second pipelined call, `chunk_solve`: what one grid point reads and writes, and its body's triple. -/
module

public import proofs.«01_k».proof.Proof.KernelIdeal.Chunk
public import proofs.«01_k».proof.Proof.Gen.KernelIdeal.Points
public import proofs.«01_k».proof.Proof.Gen.KernelIdeal.Launch
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S2048x128 := Rect.unit (s := S2048x128) ![0, 0] S128x128.size inb_S2048x128_S128x128_0_0
abbrev r1_1 : Rect S2048x128 := Rect.unit (s := S2048x128) ![128, 0] S128x128.size inb_S2048x128_S128x128_128_0
abbrev r1_2 : Rect S2048x128 := Rect.unit (s := S2048x128) ![256, 0] S128x128.size inb_S2048x128_S128x128_256_0
abbrev r1_3 : Rect S2048x128 := Rect.unit (s := S2048x128) ![384, 0] S128x128.size inb_S2048x128_S128x128_384_0
abbrev r1_4 : Rect S2048x128 := Rect.unit (s := S2048x128) ![512, 0] S128x128.size inb_S2048x128_S128x128_512_0
abbrev r1_5 : Rect S2048x128 := Rect.unit (s := S2048x128) ![640, 0] S128x128.size inb_S2048x128_S128x128_640_0
abbrev r1_6 : Rect S2048x128 := Rect.unit (s := S2048x128) ![768, 0] S128x128.size inb_S2048x128_S128x128_768_0
abbrev r1_7 : Rect S2048x128 := Rect.unit (s := S2048x128) ![896, 0] S128x128.size inb_S2048x128_S128x128_896_0
abbrev r1_8 : Rect S2048x128 := Rect.unit (s := S2048x128) ![1024, 0] S128x128.size inb_S2048x128_S128x128_1024_0
abbrev r1_9 : Rect S2048x128 := Rect.unit (s := S2048x128) ![1152, 0] S128x128.size inb_S2048x128_S128x128_1152_0
abbrev r1_10 : Rect S2048x128 := Rect.unit (s := S2048x128) ![1280, 0] S128x128.size inb_S2048x128_S128x128_1280_0
abbrev r1_11 : Rect S2048x128 := Rect.unit (s := S2048x128) ![1408, 0] S128x128.size inb_S2048x128_S128x128_1408_0
abbrev r1_12 : Rect S2048x128 := Rect.unit (s := S2048x128) ![1536, 0] S128x128.size inb_S2048x128_S128x128_1536_0
abbrev r1_13 : Rect S2048x128 := Rect.unit (s := S2048x128) ![1664, 0] S128x128.size inb_S2048x128_S128x128_1664_0
abbrev r1_14 : Rect S2048x128 := Rect.unit (s := S2048x128) ![1792, 0] S128x128.size inb_S2048x128_S128x128_1792_0
abbrev r1_15 : Rect S2048x128 := Rect.unit (s := S2048x128) ![1920, 0] S128x128.size inb_S2048x128_S128x128_1920_0
abbrev r1_16 : Rect S2048x256 := Rect.unit (s := S2048x256) ![0, 0] S128x256.size inb_S2048x256_S128x256_0_0
abbrev r1_17 : Rect S2048x256 := Rect.unit (s := S2048x256) ![128, 0] S128x256.size inb_S2048x256_S128x256_128_0
abbrev r1_18 : Rect S2048x256 := Rect.unit (s := S2048x256) ![256, 0] S128x256.size inb_S2048x256_S128x256_256_0
abbrev r1_19 : Rect S2048x256 := Rect.unit (s := S2048x256) ![384, 0] S128x256.size inb_S2048x256_S128x256_384_0
abbrev r1_20 : Rect S2048x256 := Rect.unit (s := S2048x256) ![512, 0] S128x256.size inb_S2048x256_S128x256_512_0
abbrev r1_21 : Rect S2048x256 := Rect.unit (s := S2048x256) ![640, 0] S128x256.size inb_S2048x256_S128x256_640_0
abbrev r1_22 : Rect S2048x256 := Rect.unit (s := S2048x256) ![768, 0] S128x256.size inb_S2048x256_S128x256_768_0
abbrev r1_23 : Rect S2048x256 := Rect.unit (s := S2048x256) ![896, 0] S128x256.size inb_S2048x256_S128x256_896_0
abbrev r1_24 : Rect S2048x256 := Rect.unit (s := S2048x256) ![1024, 0] S128x256.size inb_S2048x256_S128x256_1024_0
abbrev r1_25 : Rect S2048x256 := Rect.unit (s := S2048x256) ![1152, 0] S128x256.size inb_S2048x256_S128x256_1152_0
abbrev r1_26 : Rect S2048x256 := Rect.unit (s := S2048x256) ![1280, 0] S128x256.size inb_S2048x256_S128x256_1280_0
abbrev r1_27 : Rect S2048x256 := Rect.unit (s := S2048x256) ![1408, 0] S128x256.size inb_S2048x256_S128x256_1408_0
abbrev r1_28 : Rect S2048x256 := Rect.unit (s := S2048x256) ![1536, 0] S128x256.size inb_S2048x256_S128x256_1536_0
abbrev r1_29 : Rect S2048x256 := Rect.unit (s := S2048x256) ![1664, 0] S128x256.size inb_S2048x256_S128x256_1664_0
abbrev r1_30 : Rect S2048x256 := Rect.unit (s := S2048x256) ![1792, 0] S128x256.size inb_S2048x256_S128x256_1792_0
abbrev r1_31 : Rect S2048x256 := Rect.unit (s := S2048x256) ![1920, 0] S128x256.size inb_S2048x256_S128x256_1920_0

/-- A window's block of the tensor written so far by the chunks: chunk `j` at rows `128 j ..`. -/
def out1_2 (x0 : Vec F S2048x128 .bf16) (x1 : Vec F S2048x128 .bf16) : Vec F S2048x256 .bf16 :=
  View.canon [⟨r1_31, chunkWX (View.ld x0 r1_15) (View.ld x1 r1_15)⟩,
    ⟨r1_30, chunkWX (View.ld x0 r1_14) (View.ld x1 r1_14)⟩,
    ⟨r1_29, chunkWX (View.ld x0 r1_13) (View.ld x1 r1_13)⟩,
    ⟨r1_28, chunkWX (View.ld x0 r1_12) (View.ld x1 r1_12)⟩,
    ⟨r1_27, chunkWX (View.ld x0 r1_11) (View.ld x1 r1_11)⟩,
    ⟨r1_26, chunkWX (View.ld x0 r1_10) (View.ld x1 r1_10)⟩,
    ⟨r1_25, chunkWX (View.ld x0 r1_9) (View.ld x1 r1_9)⟩,
    ⟨r1_24, chunkWX (View.ld x0 r1_8) (View.ld x1 r1_8)⟩,
    ⟨r1_23, chunkWX (View.ld x0 r1_7) (View.ld x1 r1_7)⟩,
    ⟨r1_22, chunkWX (View.ld x0 r1_6) (View.ld x1 r1_6)⟩,
    ⟨r1_21, chunkWX (View.ld x0 r1_5) (View.ld x1 r1_5)⟩,
    ⟨r1_20, chunkWX (View.ld x0 r1_4) (View.ld x1 r1_4)⟩,
    ⟨r1_19, chunkWX (View.ld x0 r1_3) (View.ld x1 r1_3)⟩,
    ⟨r1_18, chunkWX (View.ld x0 r1_2) (View.ld x1 r1_2)⟩,
    ⟨r1_17, chunkWX (View.ld x0 r1_1) (View.ld x1 r1_1)⟩,
    ⟨r1_16, chunkWX (View.ld x0 r1_0) (View.ld x1 r1_0)⟩]

theorem cover1_2 (p0 : Vec F S128x256 .bf16) (p1 : Vec F S128x256 .bf16) (p2 : Vec F S128x256 .bf16) (p3 : Vec F S128x256 .bf16) (p4 : Vec F S128x256 .bf16) (p5 : Vec F S128x256 .bf16) (p6 : Vec F S128x256 .bf16) (p7 : Vec F S128x256 .bf16) (p8 : Vec F S128x256 .bf16) (p9 : Vec F S128x256 .bf16) (p10 : Vec F S128x256 .bf16) (p11 : Vec F S128x256 .bf16) (p12 : Vec F S128x256 .bf16) (p13 : Vec F S128x256 .bf16) (p14 : Vec F S128x256 .bf16) (p15 : Vec F S128x256 .bf16) (y : S2048x256.Idx) :
    ∃ pc ∈ ([⟨r1_31, p0⟩, ⟨r1_30, p1⟩, ⟨r1_29, p2⟩, ⟨r1_28, p3⟩, ⟨r1_27, p4⟩, ⟨r1_26, p5⟩, ⟨r1_25, p6⟩, ⟨r1_24, p7⟩, ⟨r1_23, p8⟩, ⟨r1_22, p9⟩, ⟨r1_21, p10⟩, ⟨r1_20, p11⟩, ⟨r1_19, p12⟩, ⟨r1_18, p13⟩, ⟨r1_17, p14⟩, ⟨r1_16, p15⟩] : List (View.Piece (Elt F) S2048x256 .bf16)), y ∈ pc.1.set :=
  View.cover_of_tiled [⟨r1_31, p0⟩, ⟨r1_30, p1⟩, ⟨r1_29, p2⟩, ⟨r1_28, p3⟩, ⟨r1_27, p4⟩, ⟨r1_26, p5⟩, ⟨r1_25, p6⟩, ⟨r1_24, p7⟩, ⟨r1_23, p8⟩, ⟨r1_22, p9⟩, ⟨r1_21, p10⟩, ⟨r1_20, p11⟩, ⟨r1_19, p12⟩, ⟨r1_18, p13⟩, ⟨r1_17, p14⟩, ⟨r1_16, p15⟩] S128x256.size (by rfl) y

set_option maxHeartbeats 1000000 in
theorem sound_kernel1 (c : Dev nD) (E : Set ℕ) (i : grid1.Coords) (arg2 : Memref sig .tc .vmem S2048x128 .bf16) (harg2 : arg2.IsWhole) (arg3 : Memref sig .tc .vmem S2048x128 .bf16) (harg3 : arg3.IsWhole) (arg4 : Memref sig .tc .vmem S2048x256 .bf16) (harg4 : arg4.IsWhole)
    (x0 : Vec F S2048x128 .bf16) (x1 : Vec F S2048x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1_chunk_solve i arg2 harg2 arg3 harg3 arg4 harg4) K := by
  simp only [cc1_chunk_solve_eq_skeleton]; unfold cc1_chunk_solve_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover1_2 _ _ _ _ _ _ _ _ _ _ _ _ _ _ _ _)).trans ?_
  rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := Pipeline.shareOf spec1 w
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Whole

end
-- ==== Proof.KernelIdeal.SweepBase.lean ====
/- The third pipelined call, `chunk_sweep`: its windows' blocks and its branch condition. -/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 16 = 0 :=
  (fun t => by
    have ht : t.val < 32 := Nat.lt_of_lt_of_eq t.isLt N_2
    have e0 : (grid2.coords t 0).val = t.val / 16 % 2 := Pipeline.Grid.coords_val t 0 (by decide) rfl
    have e1 : (grid2.coords t 1).val = t.val / 1 % 16 := Pipeline.Grid.coords_val t 1 (by decide) rfl
    simp only [cond2_0, e0, e1]
    word_cmp
   : ∀ t : Fin grid2.N, cond2_0 (grid2.coords t) ↔ t.val % 16 = 0)

abbrev VO2_6 : View sig .tc .vmem S1024x512 .bf16 := (Memref.whole cc2_stg6_0 : Memref sig .tc .vmem S1024x512 .bf16).view
abbrev ms2_0 (t : Fin cfg2.N) : Memref sig .tc .vmem S1024x256 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x256 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x256 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x512 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x512 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x512 .bf16 := win2_6.stage (cfg2.slots t 6)
abbrev hs2_6 (t : Fin cfg2.N) : (ms2_6 t).IsWhole := hstage2_6 ((cfg2.slots t 6).cast nbuf2_6)
abbrev scM2_0 : Memref sig .tc .vmem S2x64x256 .f32 := Memref.whole cc2_scratch0
abbrev VS2_0 : View sig .tc .vmem S2x64x256 .f32 := scM2_0.view

end Cert.KernelIdeal.Whole

end
-- ==== Proof.KernelIdeal.SweepVal.lean ====
/- The values of `chunk_sweep`'s body, one chunk of 128 rows (32 steps of 4 batches) of four heads at a time: the
   errors, the outputs and the updated memory. Stated over any float values. -/
module

public import proofs.«01_k».proof.Proof.Gen.KernelIdeal.Skeleton

@[expose] public section

noncomputable section

namespace Cert.KernelIdeal.Whole

open Cert.KernelIdeal.Gen Idealize.ShloMosaic

variable {F : FTy → Type} [FloatOps F]

/-- The mask of the entries whose column's step is not after the row's step. -/
def inclP : IVec S128x128 1 :=
  cmpi .sle (shrsi (iota .tc S128x128 32 [1] iota_S128x128_d1_w32) (broadcast S128x128 2#32))
    (shrsi (iota .tc S128x128 32 [0] iota_S128x128_d0_w32) (broadcast S128x128 2#32))

/-- The learning rate over the batch, everywhere. -/
def betaS : F .f32 := Scalar.ofBits .f32 0x3CCCCCCD#32

/-- Two heads' columns beside two more heads'. -/
def beside (a b : Vec F S128x128 .bf16) : FVec F S128x256 .bf16 :=
  concatenate S128x256 1 [⟨S128x128, shapeCast S128x128 a shapeCasts_S128x128_S128x128⟩,
    ⟨S128x128, shapeCast S128x128 b shapeCasts_S128x128_S128x128⟩] concatenates_S128x128_S128x128_S128x256_d1

/-- A memory of four heads with the lanes of head `i` only. -/
def laneN (i : BitVec 32) (n : FVec F S64x256 .bf16) : FVec F S64x256 .bf16 :=
  select (cmpi .eq (shrsi (iota .tc S64x256 32 [1] iota_S64x256_d1_w32) (broadcast S64x256 6#32)) (broadcast S64x256 i))
    n (broadcast S64x256 (Scalar.ofBits .bf16 0x0000#16))

/-- A memory of four heads, block diagonally. -/
def diagN (n : FVec F S64x256 .bf16) : FVec F S256x256 .bf16 :=
  concatenate S256x256 0 [⟨S64x256, laneN 0#32 n⟩, ⟨S64x256, laneN 1#32 n⟩, ⟨S64x256, laneN 2#32 n⟩, ⟨S64x256, laneN 3#32 n⟩]
    concatenates_S64x256_S64x256_S64x256_S64x256_S256x256_d0

/-- The errors of four heads with the lanes of head `i` only. -/
def laneE (i : BitVec 32) (e : FVec F S128x256 .bf16) : FVec F S128x256 .bf16 :=
  select (cmpi .eq (shrsi (iota .tc S128x256 32 [1] iota_S128x256_d1_w32) (broadcast S128x256 6#32)) (broadcast S128x256 i))
    e (broadcast S128x256 (Scalar.ofBits .bf16 0x0000#16))

/-- The errors of four heads, block diagonally. -/
def diagE (e : FVec F S128x256 .bf16) : FVec F S512x256 .bf16 :=
  concatenate S512x256 0 [⟨S128x256, laneE 0#32 e⟩, ⟨S128x256, laneE 1#32 e⟩, ⟨S128x256, laneE 2#32 e⟩, ⟨S128x256, laneE 3#32 e⟩]
    concatenates_S128x256_S128x256_S128x256_S128x256_S512x256_d0

/-- The keys' factor and the queries, each times the memory. -/
def readN (x q : FVec F S128x256 .bf16) (n : FVec F S64x256 .f32) : FVec F S256x256 .f32 :=
  matmul dot_S256x256_S256x256_S256x256_1_0_0_1_n_n none
    (concatenate S256x256 0 [⟨S128x256, x⟩, ⟨S128x256, q⟩] concatenates_S128x256_S128x256_S256x256_d0)
    (diagN (truncf .bf16 n bitsLt_bf16_f32)) (constant S256x256 .f32 0x00000000#32)

/-- The errors of a chunk. -/
def errE (w x q : FVec F S128x256 .bf16) (n : FVec F S64x256 .f32) : FVec F S128x256 .bf16 :=
  truncf .bf16 (subf (extf .f32 w bitsLt_bf16_f32)
    (extractStridedSlice S128x256 ![0, 0] (readN x q n) slices_S256x256_o0_0_S128x256)) bitsLt_bf16_f32

/-- One head's masked products of the queries and the keys. -/
def attn1 (q : FVec F S128x64 .bf16) (k : Vec F S128x64 .bf16) : FVec F S128x128 .bf16 :=
  truncf .bf16 (select inclP (mulf (broadcast S128x128 betaS)
      (matmul dot_S128x64_S128x64_S128x128_1_1_0_0_n_n none q (shapeCast S128x64 k shapeCasts_S128x64_S128x64)
        (constant S128x128 .f32 0x00000000#32)))
    (broadcast S128x128 (Scalar.ofBits .f32 0x00000000#32))) bitsLt_bf16_f32

/-- One head's keys against its errors. -/
def upd1 (k : Vec F S128x64 .bf16) (e : FVec F S128x64 .bf16) : FVec F S64x64 .f32 :=
  matmul dot_S128x64_S128x64_S64x64_0_0_1_1_n_n none (shapeCast S128x64 k shapeCasts_S128x64_S128x64) e
    (constant S64x64 .f32 0x00000000#32)

/-- The four heads' masked products, side by side. -/
def attn (q : FVec F S128x256 .bf16) (k0 k1 k2 k3 : Vec F S128x64 .bf16) : FVec F S128x512 .bf16 :=
  concatenate S128x512 1
    [⟨S128x128, attn1 (extractStridedSlice S128x64 ![0, 0] q slices_S128x256_o0_0_S128x64) k0⟩,
     ⟨S128x128, attn1 (extractStridedSlice S128x64 ![0, 64] q slices_S128x256_o0_64_S128x64) k1⟩,
     ⟨S128x128, attn1 (extractStridedSlice S128x64 ![0, 128] q slices_S128x256_o0_128_S128x64) k2⟩,
     ⟨S128x128, attn1 (extractStridedSlice S128x64 ![0, 192] q slices_S128x256_o0_192_S128x64) k3⟩]
    concatenates_S128x128_S128x128_S128x128_S128x128_S128x512_d1

/-- The four heads' updates, side by side. -/
def upd (e : FVec F S128x256 .bf16) (k0 k1 k2 k3 : Vec F S128x64 .bf16) : FVec F S64x256 .f32 :=
  concatenate S64x256 1
    [⟨S64x64, upd1 k0 (extractStridedSlice S128x64 ![0, 0] e slices_S128x256_o0_0_S128x64)⟩,
     ⟨S64x64, upd1 k1 (extractStridedSlice S128x64 ![0, 64] e slices_S128x256_o0_64_S128x64)⟩,
     ⟨S64x64, upd1 k2 (extractStridedSlice S128x64 ![0, 128] e slices_S128x256_o0_128_S128x64)⟩,
     ⟨S64x64, upd1 k3 (extractStridedSlice S128x64 ![0, 192] e slices_S128x256_o0_192_S128x64)⟩]
    concatenates_S64x64_S64x64_S64x64_S64x64_S64x256_d1

/-- What a chunk writes of the output. -/
def chunkO (wa wb xa xb : Vec F S128x128 .bf16) (q : Vec F S128x256 .bf16) (n : Vec F S1x64x256 .f32)
    (k0 k1 k2 k3 : Vec F S128x64 .bf16) : FVec F S128x256 .bf16 :=
  truncf .bf16 (addf
    (extractStridedSlice S128x256 ![128, 0]
      (readN (beside xa xb) (shapeCast S128x256 q shapeCasts_S128x256_S128x256) (shapeCast S64x256 n shapeCasts_S1x64x256_S64x256))
      slices_S256x256_o128_0_S128x256)
    (matmul dot_S128x512_S512x256_S128x256_1_0_0_1_n_n none (attn (shapeCast S128x256 q shapeCasts_S128x256_S128x256) k0 k1 k2 k3)
      (diagE (errE (beside wa wb) (beside xa xb) (shapeCast S128x256 q shapeCasts_S128x256_S128x256)
        (shapeCast S64x256 n shapeCasts_S1x64x256_S64x256)))
      (constant S128x256 .f32 0x00000000#32))) bitsLt_bf16_f32

/-- What a chunk leaves in the memory. -/
def chunkN (wa wb xa xb : Vec F S128x128 .bf16) (q : Vec F S128x256 .bf16) (n : Vec F S1x64x256 .f32)
    (k0 k1 k2 k3 : Vec F S128x64 .bf16) : FVec F S1x64x256 .f32 :=
  shapeCast S1x64x256 (addf (shapeCast S64x256 n shapeCasts_S1x64x256_S64x256)
    (mulf (broadcast S64x256 betaS)
      (upd (errE (beside wa wb) (beside xa xb) (shapeCast S128x256 q shapeCasts_S128x256_S128x256)
        (shapeCast S64x256 n shapeCasts_S1x64x256_S64x256)) k0 k1 k2 k3))) shapeCasts_S64x256_S1x64x256

end Cert.KernelIdeal.Whole

end
-- ==== Proof.KernelIdeal.SweepStep.lean ====
/- One step of `chunk_sweep`'s body (a chunk of 128 rows, four heads) as a program, and its triple. -/
module

public import proofs.«01_k».proof.Proof.KernelIdeal.SweepVal
public import proofs.«01_k».proof.Proof.Gen.KernelIdeal.Points
public import proofs.«01_k».proof.Proof.Gen.KernelIdeal.Launch
public import Idealize.ShloMosaic.Lib.VecWindow
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The row offset of step `j`: two steps to a chunk of 128 rows. -/
abbrev rowOf (j : ℕ) : ℕ := 128 * (j / 2 % 8)
/-- The group of four heads of step `j`. -/
abbrev grpOf (j : ℕ) : ℕ := j % 2

theorem inbW (j c : ℕ) (hc : c ≤ 128) : ∀ a, (![rowOf j, c] : Fin 2 → ℕ) a + S128x128.size a ≤ S1024x256.size a := by
  intro a; fin_cases a
  · show rowOf j + 128 ≤ 1024; unfold rowOf; omega
  · show c + 128 ≤ 256; omega
theorem inbQ (j : ℕ) : ∀ a, (![rowOf j, 256 * grpOf j] : Fin 2 → ℕ) a + S128x256.size a ≤ S1024x512.size a := by
  intro a; fin_cases a
  · show rowOf j + 128 ≤ 1024; unfold rowOf; omega
  · show 256 * grpOf j + 256 ≤ 512; unfold grpOf; omega
theorem inbK (j h : ℕ) (hh : h ≤ 3) : ∀ a, (![rowOf j, 256 * grpOf j + 64 * h] : Fin 2 → ℕ) a + S128x64.size a ≤ S1024x512.size a := by
  intro a; fin_cases a
  · show rowOf j + 128 ≤ 1024; unfold rowOf; omega
  · show 256 * grpOf j + 64 * h + 64 ≤ 512; unfold grpOf; omega
theorem inbN (j : ℕ) : ∀ a, (![grpOf j, 0, 0] : Fin 3 → ℕ) a + S1x64x256.size a ≤ S2x64x256.size a := by
  intro a; fin_cases a
  · show grpOf j + 1 ≤ 2; unfold grpOf; omega
  · exact Nat.le_refl 64
  · exact Nat.le_refl 256

/-- The rectangles step `j` reads and writes: of a window of the second call's output (values, keys), -/
abbrev rW (j c : ℕ) (hc : c ≤ 128) : Rect S1024x256 := Rect.unit (s := S1024x256) ![rowOf j, c] S128x128.size (inbW j c hc)
/-- of the queries and of the output, -/
abbrev rQ (j : ℕ) : Rect S1024x512 := Rect.unit (s := S1024x512) ![rowOf j, 256 * grpOf j] S128x256.size (inbQ j)
/-- of the keys of one of the four heads, -/
abbrev rK (j h : ℕ) (hh : h ≤ 3) : Rect S1024x512 := Rect.unit (s := S1024x512) ![rowOf j, 256 * grpOf j + 64 * h] S128x64.size (inbK j h hh)
/-- and of the memory. -/
abbrev rN (j : ℕ) : Rect S2x64x256 := Rect.unit (s := S2x64x256) ![grpOf j, 0, 0] S1x64x256.size (inbN j)

/-- The output chunk of step `j` from the windows' contents and the memory. -/
def stepO (xa xb : Vec F S1024x256 .bf16) (x4 x5 : Vec F S1024x512 .bf16) (n : Vec F S2x64x256 .f32) (j : ℕ) : Vec F S128x256 .bf16 :=
  chunkO (View.ld xa (rW j 0 (by decide))) (View.ld xb (rW j 0 (by decide)))
    (View.ld xa (rW j 128 (by decide))) (View.ld xb (rW j 128 (by decide))) (View.ld x4 (rQ j)) (View.ld n (rN j))
    (View.ld x5 (rK j 0 (by decide))) (View.ld x5 (rK j 1 (by decide))) (View.ld x5 (rK j 2 (by decide))) (View.ld x5 (rK j 3 (by decide)))

/-- The memory of the four heads of step `j` after it. -/
def stepN (xa xb : Vec F S1024x256 .bf16) (x4 x5 : Vec F S1024x512 .bf16) (n : Vec F S2x64x256 .f32) (j : ℕ) : Vec F S1x64x256 .f32 :=
  chunkN (View.ld xa (rW j 0 (by decide))) (View.ld xb (rW j 0 (by decide)))
    (View.ld xa (rW j 128 (by decide))) (View.ld xb (rW j 128 (by decide))) (View.ld x4 (rQ j)) (View.ld n (rN j))
    (View.ld x5 (rK j 0 (by decide))) (View.ld x5 (rK j 1 (by decide))) (View.ld x5 (rK j 2 (by decide))) (View.ld x5 (rK j 3 (by decide)))

/-- One step of the body: its loads and stores, over the values above. -/
def sweepStep (wa wb : Memref sig .tc .vmem S1024x256 .bf16) (q k o : Memref sig .tc .vmem S1024x512 .bf16)
    (n : Memref sig .tc .vmem S2x64x256 .f32) (j : ℕ) (hs : (o.access (rQ j)).Stores Finset.univ) :
    Prog (TpuEff nD τ sig (Elt F) Λ₀ .tc) PUnit := do
  let a : Vec F S128x128 .bf16 ← Prog.lift (.load wa (rW j 0 (by decide)).toLoadRect (View.loadsAt_vmem h_S128x128))
  let b : Vec F S128x128 .bf16 ← Prog.lift (.load wb (rW j 0 (by decide)).toLoadRect (View.loadsAt_vmem h_S128x128))
  let xa : Vec F S128x128 .bf16 ← Prog.lift (.load wa (rW j 128 (by decide)).toLoadRect (View.loadsAt_vmem h_S128x128))
  let xb : Vec F S128x128 .bf16 ← Prog.lift (.load wb (rW j 128 (by decide)).toLoadRect (View.loadsAt_vmem h_S128x128))
  let qv : Vec F S128x256 .bf16 ← Prog.lift (.load q (rQ j).toLoadRect (View.loadsAt_vmem h_S128x256))
  let nv : Vec F S1x64x256 .f32 ← Prog.lift (.load n (rN j).toLoadRect (View.loadsAt_vmem h_S1x64x256))
  let k0 : Vec F S128x64 .bf16 ← Prog.lift (.load k (rK j 0 (by decide)).toLoadRect (View.loadsAt_vmem h_S128x64))
  let k1 : Vec F S128x64 .bf16 ← Prog.lift (.load k (rK j 1 (by decide)).toLoadRect (View.loadsAt_vmem h_S128x64))
  let k2 : Vec F S128x64 .bf16 ← Prog.lift (.load k (rK j 2 (by decide)).toLoadRect (View.loadsAt_vmem h_S128x64))
  let k3 : Vec F S128x64 .bf16 ← Prog.lift (.load k (rK j 3 (by decide)).toLoadRect (View.loadsAt_vmem h_S128x64))
  let _ : Vec F S128x256 .bf16 ← Prog.lift (.load o (rQ j).toLoadRect (View.loadsAt_vmem h_S128x256))
  Prog.lift (.store o (rQ j) (chunkO a b xa xb qv nv k0 k1 k2 k3) Finset.univ hs (.inl rfl))
  let _ : Vec F S1x64x256 .f32 ← Prog.lift (.load n (rN j).toLoadRect (View.loadsAt_vmem h_S1x64x256))
  Prog.lift (.store n (rN j) (chunkN a b xa xb qv nv k0 k1 k2 k3) Finset.univ (View.stores_vmem_bits_univ h_S1x64x256 rfl) (.inl rfl))

/-- The condition the memory is reset under. -/
abbrev resetC (i : grid2.Coords) : Prop :=
  Scalar.cmpi .ne (Scalar.extui (Scalar.cmpi .eq (BitVec.ofNat 32 (i 1).val) 0#32) : BitVec 32) 0#32 = 1#1

/-- The reset of the memory. -/
def sweepReset (n : Memref sig .tc .vmem S2x64x256 .f32) : Prog (TpuEff nD τ sig (Elt F) Λ₀ .tc) PUnit := do
  let _ : Vec F S2x64x256 .f32 ← Prog.lift (.load n (Rect.unit (s := S2x64x256) ![0, 0, 0] S2x64x256.size inb_S2x64x256_S2x64x256_0_0_0).toLoadRect (View.loadsAt_vmem h_S2x64x256))
  Prog.lift (.store n (Rect.unit (s := S2x64x256) ![0, 0, 0] S2x64x256.size inb_S2x64x256_S2x64x256_0_0_0) (k2_pay2 (F := F)) Finset.univ (View.stores_vmem_bits_univ h_S2x64x256 rfl) (.inl rfl))

set_option maxHeartbeats 1000000 in
/-- One step's triple: the output's buffer and the memory each with the step's chunk put in. -/
theorem sound_step (c : Dev nD) (E : Set ℕ) (wa wb : Memref sig .tc .vmem S1024x256 .bf16) (q k o : Memref sig .tc .vmem S1024x512 .bf16)
    (n : Memref sig .tc .vmem S2x64x256 .f32) (j : ℕ) (hs : (o.access (rQ j)).Stores Finset.univ)
    (xa xb : Vec F S1024x256 .bf16) (x4 x5 : Vec F S1024x512 .bf16) (d : Vec F S1024x512 .bf16) (xn : Vec F S2x64x256 .f32)
    (K : PUnit → sProp 𝕄) :
    iprop(owns (c : Thread nD τ) wa fullShare xa ∗ owns (c : Thread nD τ) wb fullShare xb ∗ owns (c : Thread nD τ) q fullShare x4 ∗ owns (c : Thread nD τ) k fullShare x5
        ∗ owns (c : Thread nD τ) o fullShare d ∗ owns (c : Thread nD τ) n fullShare xn
        ∗ (iprop(owns (c : Thread nD τ) wa fullShare xa ∗ owns (c : Thread nD τ) wb fullShare xb ∗ owns (c : Thread nD τ) q fullShare x4 ∗ owns (c : Thread nD τ) k fullShare x5
            ∗ owns (c : Thread nD τ) o fullShare (VecWindow.put d ![rowOf j, 256 * grpOf j] S128x256.size (stepO xa xb x4 x5 xn j))
            ∗ owns (c : Thread nD τ) n fullShare (VecWindow.put xn ![grpOf j, 0, 0] S1x64x256.size (stepN xa xb x4 x5 xn j))) -∗ K ⟨⟩))
      ⊢ wp frame (wpE (defs₀ (F := F)) Variants.none c none) E (sweepStep wa wb q k o n j hs) K := by
  unfold sweepStep
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_cons_put _ _ _ _ _ rfl
  · iexists _; isplitr
    swap; · iexact H5
    ipureintro
    exact View.read_writes_cons_put _ _ _ _ _ rfl

end Cert.KernelIdeal.Whole

end
-- ==== Proof.KernelIdeal.SweepProg.lean ====
/- The printed body of `chunk_sweep` as its reset and sixteen steps. -/
module

public import proofs.«01_k».proof.Proof.KernelIdeal.SweepStep
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The output's rectangle of a step starts at a whole word and ends at one. -/
theorem packedO (j : ℕ) : (rQ j).PackedRows (EltTy.packing .bf16) :=
  .inr ⟨by decide, rfl, .inl ⟨Dvd.intro _ (show 2 * (64 * (j / 2 % 8)) = rowOf j by unfold rowOf; omega), ⟨64, rfl⟩⟩⟩

/-- The output's rectangle of a step is stored through. -/
theorem stores8 (o : Memref sig .tc .vmem S1024x512 .bf16) (ho : o.IsWhole) (j : ℕ) : (o.access (rQ j)).Stores Finset.univ :=
  View.stores_vmem h_S128x256 (ho.storeExact_slice rfl _ (packedO j)) (fun _ => rfl)

/-- The loads the first part of the body does after the reset, and what it passes on. -/
def part1Rest (arg2 arg3 : Memref sig .tc .vmem S1024x256 .bf16) (arg6 : Memref sig .tc .vmem S1024x512 .bf16) (arg9 : Memref sig .tc .vmem S2x64x256 .f32) :
    Prog (TpuEff nD τ sig (Elt F) Λ₀ .tc) (Σ' (v9 : IVec S128x128 1) (v14 : FVec F S128x256 .bf16) (v19 : FVec F S128x256 .bf16) (v21 : FVec F S128x256 .bf16) (v23 : FVec F S64x256 .f32) (v24 : FVec F S64x256 .bf16) (v27 : IVec S64x256 32) (v31 : FVec F S64x256 .bf16) (v33 : IVec S64x256 1), FVec F S64x256 .bf16) := do
  let v10 : Vec F S128x128 .bf16 ← Prog.lift (.load arg2 (rW 0 0 (by decide)).toLoadRect (View.loadsAt_vmem h_S128x128))
  let v12 : Vec F S128x128 .bf16 ← Prog.lift (.load arg3 (rW 0 0 (by decide)).toLoadRect (View.loadsAt_vmem h_S128x128))
  let v15 : Vec F S128x128 .bf16 ← Prog.lift (.load arg2 (rW 0 128 (by decide)).toLoadRect (View.loadsAt_vmem h_S128x128))
  let v17 : Vec F S128x128 .bf16 ← Prog.lift (.load arg3 (rW 0 128 (by decide)).toLoadRect (View.loadsAt_vmem h_S128x128))
  let v20 : Vec F S128x256 .bf16 ← Prog.lift (.load arg6 (rQ 0).toLoadRect (View.loadsAt_vmem h_S128x256))
  let v22 : Vec F S1x64x256 .f32 ← Prog.lift (.load arg9 (rN 0).toLoadRect (View.loadsAt_vmem h_S1x64x256))
  pure ⟨k2_pay3, k2_pay4 v10 v12, k2_pay5 v15 v17, k2_pay6 v20, k2_pay7 v22, k2_pay8 v22, k2_pay9, k2_pay10 v22, k2_pay11, k2_pay12 (F := F)⟩

/-- `n` steps of the body from step `j`: an even step reads the first pair of the second call's windows, an odd one the second. -/
def stepsFrom (a0 a1 a2 a3 : Memref sig .tc .vmem S1024x256 .bf16) (q k o : Memref sig .tc .vmem S1024x512 .bf16) (ho : o.IsWhole)
    (m : Memref sig .tc .vmem S2x64x256 .f32) : ℕ → ℕ → Prog (TpuEff nD τ sig (Elt F) Λ₀ .tc) PUnit
  | 0, _ => pure ⟨⟩
  | n + 1, j => do
    sweepStep (if grpOf j = 0 then a0 else a2) (if grpOf j = 0 then a1 else a3) q k o m j (stores8 o ho j)
    stepsFrom a0 a1 a2 a3 q k o ho m n (j + 1)

/-- The printed body, at a point that resets, is the reset followed by its sixteen steps. -/
theorem sweep_eq_reset (i : grid2.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S2x64x256 .f32) (harg9 : arg9.IsWhole) (h : resetC i) :
    cc2_chunk_sweep (F := F) i arg2 harg2 arg3 harg3 arg4 harg4 arg5 harg5 arg6 harg6 arg7 harg7 arg8 harg8 arg9 harg9 = (do sweepReset arg9; stepsFrom arg2 arg3 arg4 arg5 arg6 arg7 arg8 harg8 arg9 16 0) := by
  have e : k2_part1 (F := F) i arg2 harg2 arg3 harg3 arg4 harg4 arg5 harg5 arg6 harg6 arg7 harg7 arg8 harg8 arg9 harg9 = (do sweepReset arg9; part1Rest arg2 arg3 arg6 arg9) :=
    (show k2_part1 (F := F) i arg2 harg2 arg3 harg3 arg4 harg4 arg5 harg5 arg6 harg6 arg7 harg7 arg8 harg8 arg9 harg9 = k2_part1_skel i arg2 harg2 arg3 harg3 arg4 harg4 arg5 harg5 arg6 harg6 arg7 harg7 arg8 harg8 arg9 harg9 by rw [k2_part1_eq_skeleton]).trans (dif_pos h)
  rw [cc2_chunk_sweep_eq_skeleton]; unfold cc2_chunk_sweep_skel; rw [e]
  sl_kernel_rfl

/-- The printed body, at a point that does not reset, is its sixteen steps. -/
theorem sweep_eq_steps (i : grid2.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S2x64x256 .f32) (harg9 : arg9.IsWhole) (h : ¬ resetC i) :
    cc2_chunk_sweep (F := F) i arg2 harg2 arg3 harg3 arg4 harg4 arg5 harg5 arg6 harg6 arg7 harg7 arg8 harg8 arg9 harg9 = stepsFrom arg2 arg3 arg4 arg5 arg6 arg7 arg8 harg8 arg9 16 0 := by
  have e : k2_part1 (F := F) i arg2 harg2 arg3 harg3 arg4 harg4 arg5 harg5 arg6 harg6 arg7 harg7 arg8 harg8 arg9 harg9 = part1Rest arg2 arg3 arg6 arg9 :=
    (show k2_part1 (F := F) i arg2 harg2 arg3 harg3 arg4 harg4 arg5 harg5 arg6 harg6 arg7 harg7 arg8 harg8 arg9 harg9 = k2_part1_skel i arg2 harg2 arg3 harg3 arg4 harg4 arg5 harg5 arg6 harg6 arg7 harg7 arg8 harg8 arg9 harg9 by rw [k2_part1_eq_skeleton]).trans (dif_neg h)
  rw [cc2_chunk_sweep_eq_skeleton]; unfold cc2_chunk_sweep_skel; rw [e]
  sl_kernel_rfl

end Cert.KernelIdeal.Whole

end
-- ==== Proof.KernelIdeal.SweepBody.lean ====
/- The body of `chunk_sweep`: its sixteen steps folded, and its triple. -/
module

public import proofs.«01_k».proof.Proof.KernelIdeal.SweepProg
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The contents of the six windows `chunk_sweep` reads at a grid point: of the second call's output (the values and the keys,
    of four head pairs), the queries and the keys. -/
structure SweepIn (F : FTy → Type) [FloatOps F] where
  x0 : Vec F S1024x256 .bf16
  x1 : Vec F S1024x256 .bf16
  x2 : Vec F S1024x256 .bf16
  x3 : Vec F S1024x256 .bf16
  x4 : Vec F S1024x512 .bf16
  x5 : Vec F S1024x512 .bf16

/-- The pair of windows step `j` reads. -/
def SweepIn.a (X : SweepIn F) (j : ℕ) : Vec F S1024x256 .bf16 := if grpOf j = 0 then X.x0 else X.x2
@[inherit_doc SweepIn.a]
def SweepIn.b (X : SweepIn F) (j : ℕ) : Vec F S1024x256 .bf16 := if grpOf j = 0 then X.x1 else X.x3

/-- The memory after the first `j` steps. -/
def memAfter (X : SweepIn F) (n : Vec F S2x64x256 .f32) : ℕ → Vec F S2x64x256 .f32
  | 0 => n
  | j + 1 => VecWindow.put (memAfter X n j) ![grpOf j, 0, 0] S1x64x256.size (stepN (X.a j) (X.b j) X.x4 X.x5 (memAfter X n j) j)

/-- The output's buffer after the first `j` steps. -/
def outAfter (X : SweepIn F) (n : Vec F S2x64x256 .f32) (d : Vec F S1024x512 .bf16) : ℕ → Vec F S1024x512 .bf16
  | 0 => d
  | j + 1 => VecWindow.put (outAfter X n d j) ![rowOf j, 256 * grpOf j] S128x256.size (stepO (X.a j) (X.b j) X.x4 X.x5 (memAfter X n j) j)

/-- The step that writes an entry of the output. -/
def stepOf (y : S1024x512.Idx) : ℕ := 2 * ((y 0).val / 128) + (y 1).val / 256

/-- What the body leaves in the output's buffer, entry by entry. -/
def sweepOut (X : SweepIn F) (n : Vec F S2x64x256 .f32) : Vec F S1024x512 .bf16 := fun y =>
  stepO (X.a (stepOf y)) (X.b (stepOf y)) X.x4 X.x5 (memAfter X n (stepOf y)) (stepOf y)
    (Fin.cons ⟨(y 0).val % 128, Nat.mod_lt _ (by decide)⟩ (Fin.cons ⟨(y 1).val % 256, Nat.mod_lt _ (by decide)⟩ finZeroElim))

/-- After `j ≤ 16` steps the entries of the steps done are written, the others as they were. -/
theorem outAfter_apply (X : SweepIn F) (n : Vec F S2x64x256 .f32) (d : Vec F S1024x512 .bf16) (j : ℕ) (hj : j ≤ 16) (y : S1024x512.Idx) :
    outAfter X n d j y = if stepOf y < j then sweepOut X n y else d y := by
  induction j with
  | zero => rfl
  | succ j ih =>
    have h0 : (y 0).val < 1024 := (y 0).isLt
    have h1 : (y 1).val < 512 := (y 1).isLt
    have hm : (∀ a, (![rowOf j, 256 * grpOf j] : Fin 2 → ℕ) a ≤ (y a).val ∧ (y a).val < (![rowOf j, 256 * grpOf j] : Fin 2 → ℕ) a + S128x256.size a) ↔ stepOf y = j := by
      constructor
      · intro h
        have a0 : rowOf j ≤ (y 0).val ∧ (y 0).val < rowOf j + 128 := h 0
        have a1 : 256 * grpOf j ≤ (y 1).val ∧ (y 1).val < 256 * grpOf j + 256 := h 1
        unfold stepOf; unfold rowOf at a0; unfold grpOf at a1; omega
      · intro h a
        unfold stepOf at h
        fin_cases a
        · show rowOf j ≤ (y 0).val ∧ (y 0).val < rowOf j + 128
          unfold rowOf; omega
        · show 256 * grpOf j ≤ (y 1).val ∧ (y 1).val < 256 * grpOf j + 256
          unfold grpOf; omega
    show VecWindow.put _ _ _ _ y = _
    unfold VecWindow.put
    by_cases h : stepOf y = j
    · rw [dif_pos (hm.mpr h), if_pos (by omega)]
      subst h
      unfold sweepOut
      refine congrArg _ (funext fun a => Fin.ext ?_)
      fin_cases a
      · show (y 0).val - rowOf (stepOf y) = (y 0).val % 128
        unfold rowOf stepOf; omega
      · show (y 1).val - 256 * grpOf (stepOf y) = (y 1).val % 256
        unfold grpOf stepOf; omega
    · rw [dif_neg (fun hh => h (hm.mp hh)), ih (by omega)]
      by_cases h' : stepOf y < j
      · rw [if_pos h', if_pos (by omega)]
      · rw [if_neg h', if_neg (by omega)]

/-- The sixteen steps write the whole of the output's buffer. -/
theorem outAfter_all (X : SweepIn F) (n : Vec F S2x64x256 .f32) (d : Vec F S1024x512 .bf16) : outAfter X n d 16 = sweepOut X n := by
  funext y
  have h0 : (y 0).val < 1024 := (y 0).isLt
  have h1 : (y 1).val < 512 := (y 1).isLt
  rw [outAfter_apply X n d 16 (le_refl _), if_pos (by unfold stepOf; omega)]

/-- The buffers the body holds: its windows' at the contents `X`, the output's at `d`, the memory's at `n`. -/
def sweepHeld (c : Dev nD) (a0 a1 a2 a3 : Memref sig .tc .vmem S1024x256 .bf16) (q k o : Memref sig .tc .vmem S1024x512 .bf16)
    (m : Memref sig .tc .vmem S2x64x256 .f32) (X : SweepIn F) (d : Vec F S1024x512 .bf16) (n : Vec F S2x64x256 .f32) : sProp 𝕄 :=
  iprop(owns (c : Thread nD τ) a0 fullShare X.x0 ∗ owns (c : Thread nD τ) a1 fullShare X.x1
    ∗ owns (c : Thread nD τ) a2 fullShare X.x2 ∗ owns (c : Thread nD τ) a3 fullShare X.x3
    ∗ owns (c : Thread nD τ) q fullShare X.x4 ∗ owns (c : Thread nD τ) k fullShare X.x5
    ∗ owns (c : Thread nD τ) o fullShare d ∗ owns (c : Thread nD τ) m fullShare n)

/-- The triple of `n` steps from step `j`. -/
theorem sound_steps (c : Dev nD) (E : Set ℕ) (a0 a1 a2 a3 : Memref sig .tc .vmem S1024x256 .bf16) (q k o : Memref sig .tc .vmem S1024x512 .bf16)
    (ho : o.IsWhole) (m : Memref sig .tc .vmem S2x64x256 .f32) (X : SweepIn F) (d : Vec F S1024x512 .bf16) (n : Vec F S2x64x256 .f32)
    (K : PUnit → sProp 𝕄) (l : ℕ) : ∀ j : ℕ,
    iprop(sweepHeld c a0 a1 a2 a3 q k o m X (outAfter X n d j) (memAfter X n j)
        ∗ (sweepHeld c a0 a1 a2 a3 q k o m X (outAfter X n d (j + l)) (memAfter X n (j + l)) -∗ K ⟨⟩))
      ⊢ wp frame (wpE (defs₀ (F := F)) Variants.none c none) E (stepsFrom a0 a1 a2 a3 q k o ho m l j) K := by
  induction l with
  | zero =>
    intro j
    iintro ⟨H, Hk⟩
    unfold stepsFrom
    sl_step
    iapply Hk
    iexact H
  | succ l ih =>
    intro j
    have e : j + (l + 1) = j + 1 + l := by omega
    rw [e]
    unfold stepsFrom
    rw [wp_bind]
    have hn : memAfter X n (j + 1) = VecWindow.put (memAfter X n j) ![grpOf j, 0, 0] S1x64x256.size (stepN (X.a j) (X.b j) X.x4 X.x5 (memAfter X n j) j) := rfl
    have hd : outAfter X n d (j + 1) = VecWindow.put (outAfter X n d j) ![rowOf j, 256 * grpOf j] S128x256.size (stepO (X.a j) (X.b j) X.x4 X.x5 (memAfter X n j) j) := rfl
    have ihj := ih (j + 1)
    by_cases h : grpOf j = 0
    · simp only [if_pos h]
      have ea : X.a j = X.x0 := if_pos h
      have eb : X.b j = X.x1 := if_pos h
      rw [ea, eb] at hn hd
      unfold sweepHeld at ihj ⊢
      iintro ⟨⟨H0, H1, H2, H3, H4, H5, H6, H7⟩, Hk⟩
      iapply (sound_step c E a0 a1 q k o m j (stores8 o ho j) X.x0 X.x1 X.x4 X.x5 (outAfter X n d j) (memAfter X n j) _)
      isplitl [H0]; · iexact H0
      isplitl [H1]; · iexact H1
      isplitl [H4]; · iexact H4
      isplitl [H5]; · iexact H5
      isplitl [H6]; · iexact H6
      isplitl [H7]; · iexact H7
      iintro ⟨H0, H1, H4, H5, H6, H7⟩
      rw [← hn, ← hd]
      iapply ihj
      isplitr [Hk]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      iexact Hk
    · simp only [if_neg h]
      have ea : X.a j = X.x2 := if_neg h
      have eb : X.b j = X.x3 := if_neg h
      rw [ea, eb] at hn hd
      unfold sweepHeld at ihj ⊢
      iintro ⟨⟨H0, H1, H2, H3, H4, H5, H6, H7⟩, Hk⟩
      iapply (sound_step c E a2 a3 q k o m j (stores8 o ho j) X.x2 X.x3 X.x4 X.x5 (outAfter X n d j) (memAfter X n j) _)
      isplitl [H2]; · iexact H2
      isplitl [H3]; · iexact H3
      isplitl [H4]; · iexact H4
      isplitl [H5]; · iexact H5
      isplitl [H6]; · iexact H6
      isplitl [H7]; · iexact H7
      iintro ⟨H2, H3, H4, H5, H6, H7⟩
      rw [← hn, ← hd]
      iapply ihj
      isplitr [Hk]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      iexact Hk

/-- The reset's triple. -/
theorem sound_reset (c : Dev nD) (E : Set ℕ) (m : Memref sig .tc .vmem S2x64x256 .f32) (n : Vec F S2x64x256 .f32) (K : PUnit → sProp 𝕄) :
    iprop(owns (c : Thread nD τ) m fullShare n ∗ (owns (c : Thread nD τ) m fullShare (k2_pay2 (F := F)) -∗ K ⟨⟩))
      ⊢ wp frame (wpE (defs₀ (F := F)) Variants.none c none) E (sweepReset m) K := by
  unfold sweepReset
  unfold owns
  iintro ⟨⟨%f0, %hf0, H0⟩, Hk⟩
  subst hf0
  sl_exec
  sl_step
  iapply Hk
  iexists _; isplitr
  swap; · iexact H0
  ipureintro
  exact View.read_writes_full _ _ _ _ _

/-- What the memory holds when the steps of a point begin, `n` being what the point before left: at a point that resets, zero. -/
def startMem (i : grid2.Coords) (n : Vec F S2x64x256 .f32) : Vec F S2x64x256 .f32 := if resetC i then k2_pay2 (F := F) else n

/-- The body's triple. -/
theorem sound_kernel2 (c : Dev nD) (E : Set ℕ) (i : grid2.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S2x64x256 .f32) (harg9 : arg9.IsWhole) (X : SweepIn F) (d : Vec F S1024x512 .bf16) (n : Vec F S2x64x256 .f32)
    (K : PUnit → sProp 𝕄) :
    iprop(sweepHeld c arg2 arg3 arg4 arg5 arg6 arg7 arg8 arg9 X d n
        ∗ (sweepHeld c arg2 arg3 arg4 arg5 arg6 arg7 arg8 arg9 X (sweepOut X (startMem i n)) (memAfter X (startMem i n) 16) -∗ K ⟨⟩))
      ⊢ wp frame (wpE (defs₀ (F := F)) Variants.none c none) E (cc2_chunk_sweep (F := F) i arg2 harg2 arg3 harg3 arg4 harg4 arg5 harg5 arg6 harg6 arg7 harg7 arg8 harg8 arg9 harg9) K := by
  have hs := fun n => sound_steps c E arg2 arg3 arg4 arg5 arg6 arg7 arg8 harg8 arg9 X d n K 16 0
  simp only [Nat.zero_add, outAfter_all] at hs
  by_cases h : resetC i
  · rw [sweep_eq_reset i arg2 harg2 arg3 harg3 arg4 harg4 arg5 harg5 arg6 harg6 arg7 harg7 arg8 harg8 arg9 harg9 h, wp_bind]
    rw [show startMem i n = k2_pay2 (F := F) from if_pos h]
    have h2 := hs (k2_pay2 (F := F))
    unfold sweepHeld at h2 ⊢
    iintro ⟨⟨H0, H1, H2, H3, H4, H5, H6, H7⟩, Hk⟩
    iapply (sound_reset c E arg9 n _)
    isplitl [H7]; · iexact H7
    iintro H7
    iapply h2
    isplitr [Hk]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iexact Hk
  · rw [sweep_eq_steps i arg2 harg2 arg3 harg3 arg4 harg4 arg5 harg5 arg6 harg6 arg7 harg7 arg8 harg8 arg9 harg9 h]
    rw [show startMem i n = n from if_neg h]
    exact hs n

end Cert.KernelIdeal.Whole

end
-- ==== Proof.KernelIdeal.Sweep.lean ====
/- The frame of the third pipelined call, `chunk_sweep`: the memory carried along its grid, and its body's obligation. -/
module

public import proofs.«01_k».proof.Proof.KernelIdeal.SweepBase
public import proofs.«01_k».proof.Proof.KernelIdeal.SweepBody
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The windows' contents at grid point `t`. -/
def sweepIn (c : Dev nD) (t : Fin cfg2.N) : SweepIn F :=
  ⟨iblk2 V c 0 t, iblk2 V c 1 t, iblk2 V c 2 t, iblk2 V c 3 t, iblk2 V c 4 t, iblk2 V c 5 t⟩

/-- The memory after grid point `n`. -/
def memAt (c : Dev nD) : (n : ℕ) → n < cfg2.N → Vec F S2x64x256 .f32
  | 0, h => memAfter (sweepIn V c ⟨0, h⟩) (startMem (grid2.coords ⟨0, h⟩) (k2_pay2 (F := F))) 16
  | n + 1, h => memAfter (sweepIn V c ⟨n + 1, h⟩) (startMem (grid2.coords ⟨n + 1, h⟩) (memAt c n (Nat.lt_of_succ_lt h))) 16

/-- The memory grid point `n` finds (at the first point, which resets it, a zero one stands for it). -/
def memBefore (c : Dev nD) : (n : ℕ) → n ≤ cfg2.N → Vec F S2x64x256 .f32
  | 0, _ => k2_pay2 (F := F)
  | n + 1, h => memAt V c n h

theorem memAt_eq (c : Dev nD) (t : Fin cfg2.N) :
    memAt V c t.val t.isLt = memAfter (sweepIn V c t) (startMem (grid2.coords t) (memBefore V c t.val (Nat.le_of_lt t.isLt))) 16 := by
  obtain ⟨n, h⟩ := t
  cases n <;> rfl

/-- The scoped buffers that the call neither stages through nor names, and the generator's register. -/
def sweepRest (c : Dev nD) : sProp 𝕄 :=
  iprop(Pipeline.scopedRestBut (Ix := Unit) (Name := ℕ) (U := UR sig nD τ) (Lvl := ℕ) (Val := Elt F) spec2 c [cc2_scratch0] ∗ ∃ r, prngReg c r)

/-- The invariant before grid point `n`: the memory at anything before the first, afterwards at what the point before left. -/
def sweepΦ (c : Dev nD) : (n : ℕ) → n ≤ cfg2.N → sProp 𝕄
  | 0, _ => iprop((∃ d, owns (c : Thread nD τ) scM2_0 fullShare d) ∗ sweepRest (F := F) c)
  | n + 1, h => iprop(owns (c : Thread nD τ) scM2_0 fullShare (memAt V c n h) ∗ sweepRest (F := F) c)

theorem ΦA2_eq (c : Dev nD) : (Pipeline.ΦA spec2 c : sProp 𝕄)
    = iprop(((∃ d, owns (c : Thread nD τ) scM2_0 fullShare d)
        ∗ Pipeline.scopedRestBut (Ix := Unit) (Name := ℕ) (U := UR sig nD τ) (Lvl := ℕ) (Val := Elt F) spec2 c [cc2_scratch0]) ∗ ∃ r, prngReg c r) := by
  unfold Pipeline.ΦA
  rw [Pipeline.scopedRest_split_of_list spec2 c [cc2_scratch0] (by decide) (by decide)]
  simp only [scM2_0, owns_whole]
  rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => sweepOut (sweepIn V c t) (startMem (grid2.coords t) (memBefore V c t.val (Nat.le_of_lt t.isLt)))
  Φ t := sweepΦ V c t.val (Nat.le_of_lt_succ t.isLt)
  q w := Pipeline.shareOf spec2 w
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = sweepOut (sweepIn V c t) (startMem (grid2.coords t) (memBefore V c t.val (Nat.le_of_lt t.isLt))) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

theorem Φ2_castSucc (c : Dev nD) (t : Fin cfg2.N) : (dat2 V c).Φ t.castSucc = sweepΦ V c t.val (Nat.le_of_lt t.isLt) := by
  dsimp only [dat2]; exact Pipeline.Dat.Φ_castSucc (sweepΦ V c) t

/-- The invariant before a point as the memory at some contents, from which the point's steps begin as from the ones found. -/
theorem Φ2_open (c : Dev nD) (t : Fin cfg2.N) : sweepΦ V c t.val (Nat.le_of_lt t.isLt)
    ⊢ iprop(∃ d, ⌜startMem (grid2.coords t) d = startMem (grid2.coords t) (memBefore V c t.val (Nat.le_of_lt t.isLt))⌝
        ∗ owns (c : Thread nD τ) scM2_0 fullShare d ∗ sweepRest (F := F) c) := by
  obtain ⟨n, h⟩ := t
  cases n with
  | zero =>
    unfold sweepΦ
    iintro ⟨⟨%d, Hd⟩, HR⟩
    iexists d
    isplitr
    · ipureintro
      have hc : resetC (grid2.coords ⟨0, h⟩) := (hcond2_0 ⟨0, h⟩).mpr rfl
      unfold startMem; rw [if_pos hc, if_pos hc]
    isplitl [Hd]; · iexact Hd
    iexact HR
  | succ n =>
    unfold sweepΦ
    iintro ⟨Hd, HR⟩
    iexists _
    isplitr
    swap
    · isplitl [Hd]; · iexact Hd
      iexact HR
    ipureintro; rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl,
    after2_0, after2_1, after2_2, after2_3, after2_4, after2_5, after2_6, Φ2_castSucc,
    show (dat2 V c).Φ t.succ = iprop(owns (c : Thread nD τ) scM2_0 fullShare (memAt V c t.val t.isLt) ∗ sweepRest (F := F) c) from rfl, memAt_eq]
  have hk := fun d n K => sound_kernel2 c Set.univ (grid2.coords t) _ (hs2_0 t) _ (hs2_1 t) _ (hs2_2 t) _ (hs2_3 t) _ (hs2_4 t) _ (hs2_5 t) _ (hs2_6 t) scM2_0 (Memref.isWhole_whole _) (sweepIn V c t) d n K
  unfold sweepHeld at hk
  iintro ⟨HΦ, Ho, ⟨%d0, H0⟩, ⟨%d1, H1⟩, ⟨%d2, H2⟩, ⟨%d3, H3⟩, ⟨%d4, H4⟩, ⟨%d5, H5⟩, ⟨%d6, H6⟩⟩
  ihave HΦ := (Φ2_open V c t) $$ HΦ
  icases HΦ with ⟨%n, %hn, Hm, HR⟩
  rw [← hn]
  iapply (hk _ n _)
  isplitr [HR Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact Hm
  iintro ⟨H0, H1, H2, H3, H4, H5, H6, Hm⟩
  isplitl [HR Hm]
  · isplitl [Hm]; · iexact Hm
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- The launch's invariant gives the one before the first point, -/
theorem Φ2_in (c : Dev nD) : (Pipeline.ΦA spec2 c : sProp 𝕄) ⊢ (dat2 (F := F) V c).Φ 0 := by
  rw [show (dat2 (F := F) V c).Φ 0 = iprop((∃ d, owns (c : Thread nD τ) scM2_0 fullShare d) ∗ sweepRest (F := F) c) from rfl, ΦA2_eq]
  unfold sweepRest
  iintro ⟨⟨Hs, Hr⟩, Hp⟩
  isplitl [Hs]; · iexact Hs
  isplitl [Hr]; · iexact Hr
  iexact Hp

/-- and the one after the last gives it back. -/
theorem Φ2_out (c : Dev nD) : (dat2 (F := F) V c).Φ (Fin.last cfg2.N) ⊢ (Pipeline.ΦA spec2 c : sProp 𝕄) := by
  rw [show (dat2 (F := F) V c).Φ (Fin.last cfg2.N) = iprop(owns (c : Thread nD τ) scM2_0 fullShare (memAt V c 31 (by decide)) ∗ sweepRest (F := F) c) from rfl, ΦA2_eq]
  unfold sweepRest
  iintro ⟨Hs, Hr, Hp⟩
  isplitl [Hs Hr]
  · isplitl [Hs]
    · iexists _; iexact Hs
    iexact Hr
  iexact Hp

end Cert.KernelIdeal.Whole

end
-- ==== Proof.KernelIdeal.Whole.lean ====
/- The four pipelined calls and the host operations around them put together: the run of the whole program. -/
module

public import proofs.«01_k».proof.Proof.KernelIdeal.Proj
public import proofs.«01_k».proof.Proof.KernelIdeal.Solve
public import proofs.«01_k».proof.Proof.KernelIdeal.Sweep
public import proofs.«01_k».proof.Proof.Gen.KernelIdeal.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev argRefs : List (Ref sig .tc) := [main_arg0, main_arg1, main_arg2, main_arg3, main_arg4]

theorem hostOps0_args : ∀ a ∈ argRefs, a ∉ hostOps0_W := ListAll.forall_mem_of_all_decide (by decide +kernel)
theorem hostOps3_args : ∀ a ∈ argRefs, a ∉ hostOps3_W := ListAll.forall_mem_of_all_decide (by decide +kernel)
theorem hostOps4_args : ∀ a ∈ argRefs, a ∉ hostOps4_W := ListAll.forall_mem_of_all_decide (by decide +kernel)

variable (m : (l : Loc nD τ sig) → Buf (Elt F) l) (ρ : Dev nD → PrngReg)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact (dat1 (V2 m ρ) c).withArrays_arrAt launch₀1.sharedIn _ (A_eq1 (V2 m ρ) c) w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact (dat2 (V3 m ρ) c).withArrays_arrAt launch₀2.sharedIn _ (A_eq2 (V3 m ρ) c) w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps3 (W4 m ρ c)
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)
abbrev V5 : (c : Dev nD) → (b : Ref sig .tc) → Buf (Elt F) ((c : Thread nD τ).loc b) := fun c b => W5 m ρ c b
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
theorem W6_of (c : Dev nD) (r : Ref sig .tc) (h : ∀ w : Fin cfg3.W, Pipeline.arrRef spec3 w = r → (cfg3.win w).isOut = false) :
    W6 m ρ c (Proc.devRef .tc r) = W5 m ρ c (Proc.devRef .tc r) := by
  by_cases hw : ∃ w : Fin cfg3.W, Pipeline.arrRef spec3 w = r
  · obtain ⟨w, rfl⟩ := hw
    exact (W6_arr m ρ c w).trans (((dat3 (V5 m ρ) c).arrAt_in w (h w rfl) _).trans (A_eq3 (V5 m ρ) c w))
  · exact W6_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn3 a ha)).trans (W5_args m ρ c a ha)
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps4 (W6 m ρ c)
theorem W7_of (c : Dev nD) (r : Ref sig .tc) (h : r ∉ hostOps4_W) : W7 m ρ c (Proc.devRef .tc r) = W6 m ρ c (Proc.devRef .tc r) :=
  StableHlo.after_of_writes_sub hostOps4 _ hostOps4_writes h
theorem W7_args (c : Dev nD) : ∀ a ∈ argRefs, W7 m ρ c (Proc.devRef .tc a) = m ((c : Thread nD τ).loc a) :=
  fun a ha => (W7_of m ρ c a (hostOps4_args a ha)).trans (W6_args m ρ c a ha)

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)

abbrev adm4 : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm4 p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

-- `iapply` of a library lemma stated over `pin pcs a p` unifies with the pinned configuration only when unification may
-- unfold plain definitions in a metavariable's type
set_option backward.isDefEq.respectTransparency.types false in
def reg0 : Pipeline.RegionSeg (pcfgs (F := F)) adm4 (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm4 (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm4 (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
def reg1 : Pipeline.RegionSeg (pcfgs (F := F)) adm4 (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs_shared (p := 1) (pcfgs (F := F)) adm4 (pdats m ρ) launch₀1.win launch₀1.sharedIn launch₀1.arr_whole c
      (fun _ _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm4 (Ix := Unit) (Name := ℕ) (U := UR sig nD τ) (Lvl := ℕ)
      launch₀1.win launch₀1.sharedIn launch₀1.arr_whole c (pdats m ρ) (fun _ _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
def reg2 : Pipeline.RegionSeg (pcfgs (F := F)) adm4 (pdats m ρ) () defs₀ 𝒱₀ L lv 2 where
  win := launch₀2.win
  block_pos := launch₀2.block_pos
  stage_whole := launch₀2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs_shared (p := 2) (pcfgs (F := F)) adm4 (pdats m ρ) launch₀2.win launch₀2.sharedIn launch₀2.arr_whole c
      (fun _ _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Φ2_in (V3 m ρ) c)
    iintro ⟨Hp, -, Hr⟩
    unfold Pipeline.ΦA
    isplitl [Hr]; · iexact Hr
    iexact Hp
  hout c := by
    rw [Pipeline.ownSems0_none]
    refine (Φ2_out (V3 m ρ) c).trans ?_
    unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) adm4 (Ix := Unit) (Name := ℕ) (U := UR sig nD τ) (Lvl := ℕ)
      launch₀2.win launch₀2.sharedIn launch₀2.arr_whole c (pdats m ρ) (fun _ _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
def reg3 : Pipeline.RegionSeg (pcfgs (F := F)) adm4 (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm4 (pdats m ρ) launch3.win launch3.arr_whole c
      ((pdats m ρ 3 c).share_full fun _ => rfl) (V5 m ρ c) (A_eq3 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm4 (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segsW : List (Pipeline.Seg (pcfgs (F := F)) adm4 (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)),
    .region (reg3 m ρ),
    .host (hseg hostOps4 hostOps4_sub hostOps4_fresh (W6 m ρ)) ]
theorem main_run (c : Dev nD) : main (F := F) c = Pipeline.Seg.run (segsW m ρ) := (main_chain c).trans (by chain_rfl)

theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The program runs to completion: every buffer of the arrays ends as the fold of its stretches says, every semaphore counter at zero. -/
theorem run : θ_run defs (onTc (τ := τ) (main (F := F))) ⟨m, fun _ => 0, ρ⟩ (fun r => (∀ c : Dev nD, ∀ b ∈ Pipeline.ucRefs τ sig,
      r.2.mem (((c : Thread nD τ)).1, b) = W7 m ρ c b) ∧ r.2.sem = fun _ => 0) :=
  Pipeline.θ_run_regions_kit_sems (pcfgs (F := F)) adm4 (pdats m ρ) () cellOf_inj emb₁ defs₀ 𝒱₀ L lv m ρ main (segsW m ρ)
    (fun c Q => by rw [main_run m ρ c])
    (by simp only [segsW, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨fun c b hb => h c b hb, funext fun g => hz g (.inr (no_unscoped g.2))⟩)

/-- The program runs to completion, its arguments unchanged and every semaphore counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨(h.1 c _ (mem_uc main_arg0 (by decide))).trans (W7_main_arg0 m ρ c),
       (h.1 c _ (mem_uc main_arg1 (by decide))).trans (W7_main_arg1 m ρ c),
       (h.1 c _ (mem_uc main_arg2 (by decide))).trans (W7_main_arg2 m ρ c),
       (h.1 c _ (mem_uc main_arg3 (by decide))).trans (W7_main_arg3 m ρ c),
       (h.1 c _ (mem_uc main_arg4 (by decide))).trans (W7_main_arg4 m ρ c)⟩, h.2⟩) (run m ρ)

end Cert.KernelIdeal.Whole

end
-- ==== Proof.ReferenceIdeal.Run.lean ====
/- The run of the reference: its host operations before the scan, the counted loop of 4096 steps, and the operations
   after it. Every buffer ends at the fold of those operations over the launch contents, and no argument changes. -/
module

public import proofs.«01_k».proof.Proof.Gen.ReferenceIdeal
public import Idealize.ShloMosaic.Lib.StableHlo.RunLoop
public import Idealize.ShloMosaic.Lib.Scf.ExitTest
public import Idealize.ShloMosaic.Lib.Pipeline.RegionsLoop

@[expose] public section

set_option maxRecDepth 16384

noncomputable section

namespace Cert.ReferenceIdeal.Scan

open Cert.ReferenceIdeal.Gen Cert.ReferenceIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo (after seq Plain afterL atTrip entryContents finalContents)

variable {F : FTy → Type} [FloatOps F]

/-- The operations that read one step's row of a carried array. -/
def indexOps (arg0 : StableHlo.TRef sig ⟨S4096x4x16x64, .f32⟩) (arg1 : StableHlo.TRef sig ⟨S_, .i32⟩) (φ : fn_dynamic_index_in_dim.Bufs) : List (HloOp τ sig (Elt F)) :=
  [ StableHlo.TRef.nullary φ.c (constantI S_ 32 0#32),
    StableHlo.TRef.nullary φ.c_0 (constantI S_ 32 0#32),
    StableHlo.TRef.nullary φ.c_1 (constantI S_ 32 0#32),
    StableHlo.TRef.unaryIndexed arg0 ![arg1, φ.c, φ.c_0, φ.c_1] φ.v0 (fun x i => Host.dynamicSlice S1x4x16x64 x (fun k => (i k (Shape.Idx.first h_S_)).toInt) sliceFits_S4096x4x16x64_S1x4x16x64),
    StableHlo.TRef.reshape φ.v0 φ.v1 (rfl : (.f32 : EltTy) = .f32) shapeCasts_S1x4x16x64_S4x16x64 ]

/-- The operations that write one step's row of the result array. -/
def updateOps (arg0 : StableHlo.TRef sig ⟨S4096x4x16x64, .f32⟩) (arg1 : StableHlo.TRef sig ⟨S4x16x64, .f32⟩) (arg2 : StableHlo.TRef sig ⟨S_, .i32⟩) (φ : fn_dynamic_update_index_in_dim.Bufs) : List (HloOp τ sig (Elt F)) :=
  [ StableHlo.TRef.unary arg1 φ.v0 (broadcastInDim S1x4x16x64 ![1, 2, 3] bcast_S4x16x64_S1x4x16x64_1_2_3),
    StableHlo.TRef.nullary φ.c (constantI S_ 32 0#32),
    StableHlo.TRef.nullary φ.c_0 (constantI S_ 32 0#32),
    StableHlo.TRef.nullary φ.c_1 (constantI S_ 32 0#32),
    StableHlo.TRef.binaryIndexed arg0 φ.v0 ![arg2, φ.c, φ.c_0, φ.c_1] φ.v1 (fun x u i => Host.dynamicUpdateSlice x u (fun k => (i k (Shape.Idx.first h_S_)).toInt) updateFits_S4096x4x16x64_S1x4x16x64) ]

/-- The loop's condition. -/
abbrev condOps : List (HloOp τ sig (Elt F)) :=
  [ StableHlo.nullary main_while0c_c_6 (constantI S_ 32 4096#32),
    StableHlo.binary main_v14_3 main_while0c_c_6 main_while0c_v19 (cmpi .slt : (⟨S_, .i32⟩ : BufTy).Contents (Elt F) → (⟨S_, .i32⟩ : BufTy).Contents (Elt F) → (⟨S_, .i1⟩ : BufTy).Contents (Elt F)) ]

/-- A step's arithmetic: the error, the memory's change, the new memory and its answer to the query. -/
abbrev stepOps : List (HloOp τ sig (Elt F)) :=
  [ StableHlo.binary main_while0b_v20 main_v14_4 main_while0b_v22 ((fun l r => Host.dotGeneral dot_S4x16x64_S16x64x64_S16x4x64_2_2_0_1_1_0 none l r) : (⟨S4x16x64, .f32⟩ : BufTy).Contents (Elt F) → (⟨S16x64x64, .f32⟩ : BufTy).Contents (Elt F) → (⟨S16x4x64, .f32⟩ : BufTy).Contents (Elt F)),
    StableHlo.unary main_while0b_v22 main_while0b_v23 ((transpose S4x16x64 [1, 0, 2] · transposes_S16x4x64_S4x16x64_1_0_2) : (⟨S16x4x64, .f32⟩ : BufTy).Contents (Elt F) → (⟨S4x16x64, .f32⟩ : BufTy).Contents (Elt F)),
    StableHlo.binary main_while0b_v21 main_while0b_v23 main_while0b_v24 (subf : (⟨S4x16x64, .f32⟩ : BufTy).Contents (Elt F) → (⟨S4x16x64, .f32⟩ : BufTy).Contents (Elt F) → (⟨S4x16x64, .f32⟩ : BufTy).Contents (Elt F)),
    StableHlo.binary main_while0b_v24 main_while0b_v20 main_while0b_v25 ((fun l r => Host.dotGeneral dot_S4x16x64_S4x16x64_S16x64x64_0_0_2_2_1_1 none l r) : (⟨S4x16x64, .f32⟩ : BufTy).Contents (Elt F) → (⟨S4x16x64, .f32⟩ : BufTy).Contents (Elt F) → (⟨S16x64x64, .f32⟩ : BufTy).Contents (Elt F)),
    StableHlo.nullary main_while0b_cst_6 (constant S_ .f32 0x40800000#32),
    StableHlo.unary main_while0b_cst_6 main_while0b_v26 (broadcastInDim S16x64x64 ![] bcast_S_S16x64x64 : (⟨S_, .f32⟩ : BufTy).Contents (Elt F) → (⟨S16x64x64, .f32⟩ : BufTy).Contents (Elt F)),
    StableHlo.binary main_while0b_v25 main_while0b_v26 main_while0b_v27 (Host.divf : (⟨S16x64x64, .f32⟩ : BufTy).Contents (Elt F) → (⟨S16x64x64, .f32⟩ : BufTy).Contents (Elt F) → (⟨S16x64x64, .f32⟩ : BufTy).Contents (Elt F)),
    StableHlo.nullary main_while0b_cst_7 (constant S_ .f32 0x3DCCCCCD#32),
    StableHlo.unary main_while0b_cst_7 main_while0b_v28 (broadcastInDim S16x64x64 ![] bcast_S_S16x64x64 : (⟨S_, .f32⟩ : BufTy).Contents (Elt F) → (⟨S16x64x64, .f32⟩ : BufTy).Contents (Elt F)),
    StableHlo.binary main_while0b_v28 main_while0b_v27 main_while0b_v29 (mulf : (⟨S16x64x64, .f32⟩ : BufTy).Contents (Elt F) → (⟨S16x64x64, .f32⟩ : BufTy).Contents (Elt F) → (⟨S16x64x64, .f32⟩ : BufTy).Contents (Elt F)),
    StableHlo.binary main_v14_4 main_while0b_v29 main_while0b_v30 (addf : (⟨S16x64x64, .f32⟩ : BufTy).Contents (Elt F) → (⟨S16x64x64, .f32⟩ : BufTy).Contents (Elt F) → (⟨S16x64x64, .f32⟩ : BufTy).Contents (Elt F)),
    StableHlo.binary main_while0b_v19 main_while0b_v30 main_while0b_v31 ((fun l r => Host.dotGeneral dot_S4x16x64_S16x64x64_S16x4x64_2_2_0_1_1_0 none l r) : (⟨S4x16x64, .f32⟩ : BufTy).Contents (Elt F) → (⟨S16x64x64, .f32⟩ : BufTy).Contents (Elt F) → (⟨S16x4x64, .f32⟩ : BufTy).Contents (Elt F)),
    StableHlo.unary main_while0b_v31 main_while0b_v32 ((transpose S4x16x64 [1, 0, 2] · transposes_S16x4x64_S4x16x64_1_0_2) : (⟨S16x4x64, .f32⟩ : BufTy).Contents (Elt F) → (⟨S4x16x64, .f32⟩ : BufTy).Contents (Elt F)) ]

/-- A step's end: the counter one up, the carried buffers written. -/
abbrev endOps : List (HloOp τ sig (Elt F)) :=
  [ StableHlo.nullary main_while0b_c_8 (constantI S_ 32 1#32),
    StableHlo.binary main_v14_3 main_while0b_c_8 main_while0b_v34 (addi : (⟨S_, .i32⟩ : BufTy).Contents (Elt F) → (⟨S_, .i32⟩ : BufTy).Contents (Elt F) → (⟨S_, .i32⟩ : BufTy).Contents (Elt F)),
    StableHlo.unary main_while0b_v34 main_v14_3 id,
    StableHlo.unary main_while0b_v30 main_v14_4 id,
    StableHlo.unary main_while0b_v33 main_v14_5 id ]

/-- What runs before the loop. -/
abbrev preOps : List (HloOp τ sig (Elt F)) :=
  [ StableHlo.unary main_arg1 main_v0 ((transpose S1024x1024 [1, 0] · transposes_S1024x1024_S1024x1024_1_0) : (⟨S1024x1024, .f32⟩ : BufTy).Contents (Elt F) → (⟨S1024x1024, .f32⟩ : BufTy).Contents (Elt F)),
    StableHlo.binary main_arg0 main_v0 main_v1 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
    StableHlo.reshape main_v1 main_v2 (rfl : (.f32 : EltTy) = .f32) shapeCasts_S4x4096x1024_S4x4096x16x64,
    StableHlo.unary main_arg2 main_v3 ((transpose S1024x1024 [1, 0] · transposes_S1024x1024_S1024x1024_1_0) : (⟨S1024x1024, .f32⟩ : BufTy).Contents (Elt F) → (⟨S1024x1024, .f32⟩ : BufTy).Contents (Elt F)),
    StableHlo.binary main_arg0 main_v3 main_v4 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
    StableHlo.reshape main_v4 main_v5 (rfl : (.f32 : EltTy) = .f32) shapeCasts_S4x4096x1024_S4x4096x16x64,
    StableHlo.unary main_arg3 main_v6 ((transpose S1024x1024 [1, 0] · transposes_S1024x1024_S1024x1024_1_0) : (⟨S1024x1024, .f32⟩ : BufTy).Contents (Elt F) → (⟨S1024x1024, .f32⟩ : BufTy).Contents (Elt F)),
    StableHlo.binary main_arg0 main_v6 main_v7 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
    StableHlo.reshape main_v7 main_v8 (rfl : (.f32 : EltTy) = .f32) shapeCasts_S4x4096x1024_S4x4096x16x64,
    StableHlo.unary main_v2 main_v9 ((transpose S4096x4x16x64 [1, 0, 2, 3] · transposes_S4x4096x16x64_S4096x4x16x64_1_0_2_3) : (⟨S4x4096x16x64, .f32⟩ : BufTy).Contents (Elt F) → (⟨S4096x4x16x64, .f32⟩ : BufTy).Contents (Elt F)),
    StableHlo.unary main_v5 main_v10 ((transpose S4096x4x16x64 [1, 0, 2, 3] · transposes_S4x4096x16x64_S4096x4x16x64_1_0_2_3) : (⟨S4x4096x16x64, .f32⟩ : BufTy).Contents (Elt F) → (⟨S4096x4x16x64, .f32⟩ : BufTy).Contents (Elt F)),
    StableHlo.unary main_v8 main_v11 ((transpose S4096x4x16x64 [1, 0, 2, 3] · transposes_S4x4096x16x64_S4096x4x16x64_1_0_2_3) : (⟨S4x4096x16x64, .f32⟩ : BufTy).Contents (Elt F) → (⟨S4096x4x16x64, .f32⟩ : BufTy).Contents (Elt F)),
    StableHlo.nullary main_cst (constant S_ .f32 0x00000000#32),
    StableHlo.unary main_cst main_v12 (broadcastInDim S16x64x64 ![] bcast_S_S16x64x64 : (⟨S_, .f32⟩ : BufTy).Contents (Elt F) → (⟨S16x64x64, .f32⟩ : BufTy).Contents (Elt F)),
    StableHlo.nullary main_cst_0 (constant S_ .f32 0x00000000#32),
    StableHlo.unary main_cst_0 main_v13 (broadcastInDim S4096x4x16x64 ![] bcast_S_S4096x4x16x64 : (⟨S_, .f32⟩ : BufTy).Contents (Elt F) → (⟨S4096x4x16x64, .f32⟩ : BufTy).Contents (Elt F)),
    StableHlo.nullary main_c (constantI S_ 32 0#32),
    StableHlo.unary main_v9 main_v14_0 id,
    StableHlo.unary main_v10 main_v14_1 id,
    StableHlo.unary main_v11 main_v14_2 id,
    StableHlo.unary main_c main_v14_3 id,
    StableHlo.unary main_v12 main_v14_4 id,
    StableHlo.unary main_v13 main_v14_5 id ]

/-- What runs after the loop. -/
abbrev postOps : List (HloOp τ sig (Elt F)) :=
  [ StableHlo.unary main_v14_5 main_v15 ((transpose S4x4096x16x64 [1, 0, 2, 3] · transposes_S4096x4x16x64_S4x4096x16x64_1_0_2_3) : (⟨S4096x4x16x64, .f32⟩ : BufTy).Contents (Elt F) → (⟨S4x4096x16x64, .f32⟩ : BufTy).Contents (Elt F)),
    StableHlo.reshape main_v15 main_v16 (rfl : (.f32 : EltTy) = .f32) shapeCasts_S4x4096x16x64_S4x4096x1024,
    StableHlo.unary main_arg4 main_v17 ((transpose S1024x1024 [1, 0] · transposes_S1024x1024_S1024x1024_1_0) : (⟨S1024x1024, .f32⟩ : BufTy).Contents (Elt F) → (⟨S1024x1024, .f32⟩ : BufTy).Contents (Elt F)),
    StableHlo.binary main_v16 main_v17 main_v18 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)) ]

/-- One step of the loop, as stretches of operations. -/
abbrev bodyI : List (List (HloOp τ sig (Elt F))) :=
  [ indexOps (.of main_v14_0) (.of main_v14_3) main_while0b_call0, indexOps (.of main_v14_1) (.of main_v14_3) main_while0b_call1,
    indexOps (.of main_v14_2) (.of main_v14_3) main_while0b_call2, stepOps,
    updateOps (.of main_v14_5) (.of main_while0b_v32) (.of main_v14_3) main_while0b_call3, endOps ]

/-- A row of a carried array from its starts. -/
def rowAt (x : FVec F S4096x4x16x64 .f32) (st : Fin 4 → ℤ) : FVec F S4x16x64 .f32 :=
  shapeCast S4x16x64 (Host.dynamicSlice S1x4x16x64 x st sliceFits_S4096x4x16x64_S1x4x16x64) shapeCasts_S1x4x16x64_S4x16x64

/-- An array with a row written at its starts. -/
def putRowAt (x : FVec F S4096x4x16x64 .f32) (u : FVec F S4x16x64 .f32) (st : Fin 4 → ℤ) : FVec F S4096x4x16x64 .f32 :=
  Host.dynamicUpdateSlice x (broadcastInDim S1x4x16x64 ![1, 2, 3] bcast_S4x16x64_S1x4x16x64_1_2_3 u) st updateFits_S4096x4x16x64_S1x4x16x64

/-- The index operands of a row: the counter, then zeros. -/
def operands (i : IVec S_ 32) : Fin 4 → IVec S_ 32 := ![i, constantI S_ 32 0#32, constantI S_ 32 0#32, constantI S_ 32 0#32]

/-- One step's row of a carried array. -/
def row (x : FVec F S4096x4x16x64 .f32) (i : IVec S_ 32) : FVec F S4x16x64 .f32 :=
  rowAt x fun k => (operands i k (Shape.Idx.first h_S_)).toInt

/-- An array with one step's row written. -/
def putRow (x : FVec F S4096x4x16x64 .f32) (i : IVec S_ 32) (u : FVec F S4x16x64 .f32) : FVec F S4096x4x16x64 .f32 :=
  putRowAt x u fun k => (operands i k (Shape.Idx.first h_S_)).toInt

/-- A memory's answer to a row of queries. -/
def answer (M : FVec F S16x64x64 .f32) (q : FVec F S4x16x64 .f32) : FVec F S4x16x64 .f32 :=
  transpose S4x16x64 [1, 0, 2] (Host.dotGeneral dot_S4x16x64_S16x64x64_S16x4x64_2_2_0_1_1_0 none q M) transposes_S16x4x64_S4x16x64_1_0_2

/-- The memory after a step. -/
def newM (M : FVec F S16x64x64 .f32) (k v : FVec F S4x16x64 .f32) : FVec F S16x64x64 .f32 :=
  addf M (mulf (broadcastInDim S16x64x64 ![] bcast_S_S16x64x64 (constant S_ .f32 0x3DCCCCCD#32))
    (Host.divf (Host.dotGeneral dot_S4x16x64_S4x16x64_S16x64x64_0_0_2_2_1_1 none (subf v (answer M k)) k)
      (broadcastInDim S16x64x64 ![] bcast_S_S16x64x64 (constant S_ .f32 0x40800000#32))))

theorem body_chain : main_while0_body (F := F) = Pipeline.chain (bodyI.map fun ops => (seq ops : Prog _ PUnit)) := by
  chain_rfl

theorem main_chain (c : Dev nD) : main (F := F) c = Pipeline.chain (([preOps].map fun ops => (seq ops : Prog _ PUnit))
    ++ HostLoop.enter 0 :: [postOps].map fun ops => (seq ops : Prog _ PUnit)) := by
  chain_rfl

theorem no_sem : IsEmpty (SemLoc sig) := ⟨fun s => by
  cases s with
  | reg s => exact absurd s.2 (Nat.not_lt_zero _)
  | dma s => exact absurd s.2 (Nat.not_lt_zero _)⟩

/-- An operation on the TensorCore's references touches unscoped ones only. -/
theorem sub_uc (op : HloOp τ sig (Elt F)) (h : op.bufs ⊆ StableHlo.tcRefs τ sig) : op.bufs ⊆ Pipeline.ucRefs τ sig := fun b hb =>
  Finset.mem_filter.mpr ⟨h hb, fun h' => Bool.false_ne_true ((op.no_scoped b hb).symm.trans h')⟩

/-- The buffers a stretch writes, one per operation. -/
abbrev Writes (ops : List (HloOp τ sig (Elt F))) (ys : List (Ref sig .tc)) : Prop :=
  List.Forall₂ (fun op y => op.writes = {Proc.devRef .tc y}) ops ys

/-- A stretch leaves a buffer that is not among those it writes. -/
theorem keep {ops : List (HloOp τ sig (Elt F))} {ys : List (Ref sig .tc)} (h : Writes ops ys) {b : Ref sig .tc} (hb : b ∉ ys)
    (V : Valuation τ sig (Elt F)) : after ops V (Proc.devRef .tc b) = V (Proc.devRef .tc b) := by
  refine StableHlo.after_of_forall_not_mem ops V ?_
  induction h with
  | nil => intro op hop; nomatch hop
  | cons hw _ ih =>
    intro op hop
    rcases List.mem_cons.mp hop with rfl | hop
    · rw [hw]
      exact fun hm => StableHlo.devRef_ne_of_ne (fun e => hb (List.mem_cons.mpr (Or.inl e))) (Finset.mem_singleton.mp hm)
    · exact ih (fun hm => hb (List.mem_cons_of_mem _ hm)) op hop

/-! ## What each stretch writes -/

abbrev idx0 : List (HloOp τ sig (Elt F)) := indexOps (.of main_v14_0) (.of main_v14_3) main_while0b_call0
abbrev idx1 : List (HloOp τ sig (Elt F)) := indexOps (.of main_v14_1) (.of main_v14_3) main_while0b_call1
abbrev idx2 : List (HloOp τ sig (Elt F)) := indexOps (.of main_v14_2) (.of main_v14_3) main_while0b_call2
abbrev upd : List (HloOp τ sig (Elt F)) := updateOps (.of main_v14_5) (.of main_while0b_v32) (.of main_v14_3) main_while0b_call3

theorem idx0_writes : Writes (F := F) idx0 [main_while0b_call0_c, main_while0b_call0_c_0, main_while0b_call0_c_1, main_while0b_call0_v0, main_while0b_v19] := by
  repeat first | exact .nil | refine .cons rfl ?_
theorem idx1_writes : Writes (F := F) idx1 [main_while0b_call1_c, main_while0b_call1_c_0, main_while0b_call1_c_1, main_while0b_call1_v0, main_while0b_v20] := by
  repeat first | exact .nil | refine .cons rfl ?_
theorem idx2_writes : Writes (F := F) idx2 [main_while0b_call2_c, main_while0b_call2_c_0, main_while0b_call2_c_1, main_while0b_call2_v0, main_while0b_v21] := by
  repeat first | exact .nil | refine .cons rfl ?_
theorem step_writes : Writes (F := F) stepOps [main_while0b_v22, main_while0b_v23, main_while0b_v24, main_while0b_v25, main_while0b_cst_6, main_while0b_v26, main_while0b_v27,
    main_while0b_cst_7, main_while0b_v28, main_while0b_v29, main_while0b_v30, main_while0b_v31, main_while0b_v32] := by
  repeat first | exact .nil | refine .cons rfl ?_
theorem upd_writes : Writes (F := F) upd [main_while0b_call3_v0, main_while0b_call3_c, main_while0b_call3_c_0, main_while0b_call3_c_1, main_while0b_v33] := by
  repeat first | exact .nil | refine .cons rfl ?_
theorem end_writes : Writes (F := F) endOps [main_while0b_c_8, main_while0b_v34, main_v14_3, main_v14_4, main_v14_5] := by
  repeat first | exact .nil | refine .cons rfl ?_
theorem cond_writes : Writes (F := F) condOps [main_while0c_c_6, main_while0c_v19] := by
  repeat first | exact .nil | refine .cons rfl ?_
theorem pre_writes : Writes (F := F) preOps [main_v0, main_v1, main_v2, main_v3, main_v4, main_v5, main_v6, main_v7, main_v8, main_v9, main_v10, main_v11, main_cst, main_v12,
    main_cst_0, main_v13, main_c, main_v14_0, main_v14_1, main_v14_2, main_v14_3, main_v14_4, main_v14_5] := by
  repeat first | exact .nil | refine .cons rfl ?_
theorem post_writes : Writes (F := F) postOps [main_v15, main_v16, main_v17, main_v18] := by
  repeat first | exact .nil | refine .cons rfl ?_

/-! ## What the stretches compute -/

theorem idx0_val (V : Valuation τ sig (Elt F)) : after idx0 V (Proc.devRef .tc main_while0b_v19)
    = row (V (Proc.devRef .tc main_v14_0)) (V (Proc.devRef .tc main_v14_3)) := by
  unfold idx0 indexOps
  after_results
  refine congrArg (rowAt (V (Proc.devRef .tc main_v14_0))) (funext fun k => congrArg BitVec.toInt ?_)
  fin_cases k <;> rfl
theorem idx1_val (V : Valuation τ sig (Elt F)) : after idx1 V (Proc.devRef .tc main_while0b_v20)
    = row (V (Proc.devRef .tc main_v14_1)) (V (Proc.devRef .tc main_v14_3)) := by
  unfold idx1 indexOps
  after_results
  refine congrArg (rowAt (V (Proc.devRef .tc main_v14_1))) (funext fun k => congrArg BitVec.toInt ?_)
  fin_cases k <;> rfl
theorem idx2_val (V : Valuation τ sig (Elt F)) : after idx2 V (Proc.devRef .tc main_while0b_v21)
    = row (V (Proc.devRef .tc main_v14_2)) (V (Proc.devRef .tc main_v14_3)) := by
  unfold idx2 indexOps
  after_results
  refine congrArg (rowAt (V (Proc.devRef .tc main_v14_2))) (funext fun k => congrArg BitVec.toInt ?_)
  fin_cases k <;> rfl
theorem upd_val (V : Valuation τ sig (Elt F)) : after upd V (Proc.devRef .tc main_while0b_v33)
    = putRow (V (Proc.devRef .tc main_v14_5)) (V (Proc.devRef .tc main_v14_3)) (V (Proc.devRef .tc main_while0b_v32)) := by
  unfold upd updateOps
  after_results
  refine congrArg (putRowAt (V (Proc.devRef .tc main_v14_5)) (V (Proc.devRef .tc main_while0b_v32))) (funext fun k => congrArg BitVec.toInt ?_)
  fin_cases k <;> rfl
theorem step_mem (V : Valuation τ sig (Elt F)) : after stepOps V (Proc.devRef .tc main_while0b_v30)
    = newM (V (Proc.devRef .tc main_v14_4)) (V (Proc.devRef .tc main_while0b_v20)) (V (Proc.devRef .tc main_while0b_v21)) := by
  after_results
  rfl
theorem step_answer (V : Valuation τ sig (Elt F)) : after stepOps V (Proc.devRef .tc main_while0b_v32)
    = answer (newM (V (Proc.devRef .tc main_v14_4)) (V (Proc.devRef .tc main_while0b_v20)) (V (Proc.devRef .tc main_while0b_v21))) (V (Proc.devRef .tc main_while0b_v19)) := by
  after_results
  rfl
theorem end_ctr (V : Valuation τ sig (Elt F)) : after endOps V (Proc.devRef .tc main_v14_3)
    = addi (V (Proc.devRef .tc main_v14_3)) (constantI S_ 32 1#32) := by
  after_results
  rfl
theorem end_mem (V : Valuation τ sig (Elt F)) : after endOps V (Proc.devRef .tc main_v14_4) = V (Proc.devRef .tc main_while0b_v30) := by
  after_results
  rfl
theorem end_outs (V : Valuation τ sig (Elt F)) : after endOps V (Proc.devRef .tc main_v14_5) = V (Proc.devRef .tc main_while0b_v33) := by
  after_results
  rfl

/-! ## One step of the loop -/

/-- A buffer no stretch of the step writes is left by the step. -/
theorem step_keep (V : Valuation τ sig (Elt F)) (b : Ref sig .tc)
    (h : b ∉ [main_while0c_c_6, main_while0c_v19, main_while0b_call0_c, main_while0b_call0_c_0, main_while0b_call0_c_1, main_while0b_call0_v0, main_while0b_v19,
      main_while0b_call1_c, main_while0b_call1_c_0, main_while0b_call1_c_1, main_while0b_call1_v0, main_while0b_v20,
      main_while0b_call2_c, main_while0b_call2_c_0, main_while0b_call2_c_1, main_while0b_call2_v0, main_while0b_v21,
      main_while0b_v22, main_while0b_v23, main_while0b_v24, main_while0b_v25, main_while0b_cst_6, main_while0b_v26, main_while0b_v27,
      main_while0b_cst_7, main_while0b_v28, main_while0b_v29, main_while0b_v30, main_while0b_v31, main_while0b_v32,
      main_while0b_call3_v0, main_while0b_call3_c, main_while0b_call3_c_0, main_while0b_call3_c_1, main_while0b_v33,
      main_while0b_c_8, main_while0b_v34, main_v14_3, main_v14_4, main_v14_5]) :
    afterL bodyI (after condOps V) (Proc.devRef .tc b) = V (Proc.devRef .tc b) := by
  simp only [List.mem_cons, not_or] at h
  show after endOps (after upd (after stepOps (after idx2 (after idx1 (after idx0 (after condOps V)))))) (Proc.devRef .tc b) = _
  rw [keep end_writes (by simp only [List.mem_cons, not_or]; tauto), keep upd_writes (by simp only [List.mem_cons, not_or]; tauto),
    keep step_writes (by simp only [List.mem_cons, not_or]; tauto), keep idx2_writes (by simp only [List.mem_cons, not_or]; tauto),
    keep idx1_writes (by simp only [List.mem_cons, not_or]; tauto), keep idx0_writes (by simp only [List.mem_cons, not_or]; tauto),
    keep cond_writes (by simp only [List.mem_cons, not_or]; tauto)]

section Step

variable (V : Valuation τ sig (Elt F))

theorem body_ctr : afterL bodyI (after condOps V) (Proc.devRef .tc main_v14_3) = addi (V (Proc.devRef .tc main_v14_3)) (constantI S_ 32 1#32) := by
  show after endOps (after upd (after stepOps (after idx2 (after idx1 (after idx0 (after condOps V)))))) (Proc.devRef .tc main_v14_3) = _
  rw [end_ctr, keep upd_writes (by decide), keep step_writes (by decide), keep idx2_writes (by decide), keep idx1_writes (by decide),
    keep idx0_writes (by decide), keep cond_writes (by decide)]

/-- The rows the step's arithmetic reads. -/
theorem at_step : let X := after idx2 (after idx1 (after idx0 (after condOps V)))
    X (Proc.devRef .tc main_while0b_v19) = row (V (Proc.devRef .tc main_v14_0)) (V (Proc.devRef .tc main_v14_3))
      ∧ X (Proc.devRef .tc main_while0b_v20) = row (V (Proc.devRef .tc main_v14_1)) (V (Proc.devRef .tc main_v14_3))
      ∧ X (Proc.devRef .tc main_while0b_v21) = row (V (Proc.devRef .tc main_v14_2)) (V (Proc.devRef .tc main_v14_3))
      ∧ X (Proc.devRef .tc main_v14_3) = V (Proc.devRef .tc main_v14_3)
      ∧ X (Proc.devRef .tc main_v14_4) = V (Proc.devRef .tc main_v14_4)
      ∧ X (Proc.devRef .tc main_v14_5) = V (Proc.devRef .tc main_v14_5) := by
  dsimp only
  refine ⟨?_, ?_, ?_, ?_, ?_, ?_⟩
  · rw [keep idx2_writes (by decide), keep idx1_writes (by decide), idx0_val, keep cond_writes (by decide), keep cond_writes (by decide)]
  · rw [keep idx2_writes (by decide), idx1_val, keep idx0_writes (by decide), keep idx0_writes (by decide), keep cond_writes (by decide), keep cond_writes (by decide)]
  · rw [idx2_val, keep idx1_writes (by decide), keep idx1_writes (by decide), keep idx0_writes (by decide), keep idx0_writes (by decide),
      keep cond_writes (by decide), keep cond_writes (by decide)]
  all_goals rw [keep idx2_writes (by decide), keep idx1_writes (by decide), keep idx0_writes (by decide), keep cond_writes (by decide)]

theorem body_mem : afterL bodyI (after condOps V) (Proc.devRef .tc main_v14_4)
    = newM (V (Proc.devRef .tc main_v14_4)) (row (V (Proc.devRef .tc main_v14_1)) (V (Proc.devRef .tc main_v14_3)))
        (row (V (Proc.devRef .tc main_v14_2)) (V (Proc.devRef .tc main_v14_3))) := by
  show after endOps (after upd (after stepOps (after idx2 (after idx1 (after idx0 (after condOps V)))))) (Proc.devRef .tc main_v14_4) = _
  obtain ⟨-, h1, h2, -, h4, -⟩ := at_step V
  rw [end_mem, keep upd_writes (by decide), step_mem, h1, h2, h4]

theorem body_outs : afterL bodyI (after condOps V) (Proc.devRef .tc main_v14_5)
    = putRow (V (Proc.devRef .tc main_v14_5)) (V (Proc.devRef .tc main_v14_3))
        (answer (newM (V (Proc.devRef .tc main_v14_4)) (row (V (Proc.devRef .tc main_v14_1)) (V (Proc.devRef .tc main_v14_3)))
          (row (V (Proc.devRef .tc main_v14_2)) (V (Proc.devRef .tc main_v14_3)))) (row (V (Proc.devRef .tc main_v14_0)) (V (Proc.devRef .tc main_v14_3)))) := by
  show after endOps (after upd (after stepOps (after idx2 (after idx1 (after idx0 (after condOps V)))))) (Proc.devRef .tc main_v14_5) = _
  obtain ⟨h0, h1, h2, h3, h4, h5⟩ := at_step V
  rw [end_outs, upd_val, keep step_writes (by decide), keep step_writes (by decide), step_answer, h0, h1, h2, h3, h4, h5]

end Step

/-! ## The scan in closed form -/

/-- The counter before step `k`. -/
def ctr (k : ℕ) : IVec S_ 32 := fun _ => Scf.iv 0#32 1#32 k

/-- The memory before step `k`. -/
def memSeq (K U : FVec F S4096x4x16x64 .f32) : ℕ → FVec F S16x64x64 .f32
  | 0 => broadcastInDim S16x64x64 ![] bcast_S_S16x64x64 (constant S_ .f32 0x00000000#32)
  | k + 1 => newM (memSeq K U k) (row K (ctr k)) (row U (ctr k))

/-- The answers before step `k`. -/
def outSeq (Q K U : FVec F S4096x4x16x64 .f32) : ℕ → FVec F S4096x4x16x64 .f32
  | 0 => broadcastInDim S4096x4x16x64 ![] bcast_S_S4096x4x16x64 (constant S_ .f32 0x00000000#32)
  | k + 1 => putRow (outSeq Q K U k) (ctr k) (answer (memSeq K U (k + 1)) (row Q (ctr k)))

variable (m : (ℓ : Loc nD τ sig) → Buf (Elt F) ℓ)

abbrev entry (c : Dev nD) : Valuation τ sig (Elt F) := entryContents [preOps] m c

/-- A projection of the input, heads split, the step first. -/
def proj (x : FVec F S4x4096x1024 .f32) (w : FVec F S1024x1024 .f32) : FVec F S4096x4x16x64 .f32 :=
  transpose S4096x4x16x64 [1, 0, 2, 3] (shapeCast S4x4096x16x64 (Host.dotGeneral dot_S4x4096x1024_S1024x1024_S4x4096x1024_2_0_01_1_n_n none x
    (transpose S1024x1024 [1, 0] w transposes_S1024x1024_S1024x1024_1_0)) shapeCasts_S4x4096x1024_S4x4096x16x64) transposes_S4x4096x16x64_S4096x4x16x64_1_0_2_3

theorem entry_args (c : Dev nD) (b : Ref sig .tc) (h : b ∉ [main_v0, main_v1, main_v2, main_v3, main_v4, main_v5, main_v6, main_v7, main_v8, main_v9, main_v10, main_v11, main_cst, main_v12,
    main_cst_0, main_v13, main_c, main_v14_0, main_v14_1, main_v14_2, main_v14_3, main_v14_4, main_v14_5]) :
    entry m c (Proc.devRef .tc b) = m ((c : Thread nD τ).loc b) := keep pre_writes h _

theorem entry0 (c : Dev nD) : entry m c (Proc.devRef .tc main_v14_0) = proj (m ((c : Thread nD τ).loc main_arg0)) (m ((c : Thread nD τ).loc main_arg1)) := by
  show after preOps _ _ = _
  after_results
  rfl
theorem entry1 (c : Dev nD) : entry m c (Proc.devRef .tc main_v14_1) = proj (m ((c : Thread nD τ).loc main_arg0)) (m ((c : Thread nD τ).loc main_arg2)) := by
  show after preOps _ _ = _
  after_results
  rfl
theorem entry2 (c : Dev nD) : entry m c (Proc.devRef .tc main_v14_2) = proj (m ((c : Thread nD τ).loc main_arg0)) (m ((c : Thread nD τ).loc main_arg3)) := by
  show after preOps _ _ = _
  after_results
  rfl
theorem entry3 (c : Dev nD) : entry m c (Proc.devRef .tc main_v14_3) = ctr 0 := by
  show after preOps _ _ = _
  after_results
  exact funext fun _ => (Scf.iv_zero 0#32 1#32).symm
theorem entry4 (c : Dev nD) : entry m c (Proc.devRef .tc main_v14_4) = broadcastInDim S16x64x64 ![] bcast_S_S16x64x64 (constant S_ .f32 0x00000000#32) := by
  show after preOps _ _ = _
  after_results
  rfl
theorem entry5 (c : Dev nD) : entry m c (Proc.devRef .tc main_v14_5) = broadcastInDim S4096x4x16x64 ![] bcast_S_S4096x4x16x64 (constant S_ .f32 0x00000000#32) := by
  show after preOps _ _ = _
  after_results
  rfl

abbrev trip (k : ℕ) (c : Dev nD) : Valuation τ sig (Elt F) := atTrip condOps bodyI (entry m) k c

theorem trip_keep (c : Dev nD) (b : Ref sig .tc) (h : b ∉ [main_while0c_c_6, main_while0c_v19, main_while0b_call0_c, main_while0b_call0_c_0, main_while0b_call0_c_1, main_while0b_call0_v0, main_while0b_v19,
      main_while0b_call1_c, main_while0b_call1_c_0, main_while0b_call1_c_1, main_while0b_call1_v0, main_while0b_v20,
      main_while0b_call2_c, main_while0b_call2_c_0, main_while0b_call2_c_1, main_while0b_call2_v0, main_while0b_v21,
      main_while0b_v22, main_while0b_v23, main_while0b_v24, main_while0b_v25, main_while0b_cst_6, main_while0b_v26, main_while0b_v27,
      main_while0b_cst_7, main_while0b_v28, main_while0b_v29, main_while0b_v30, main_while0b_v31, main_while0b_v32,
      main_while0b_call3_v0, main_while0b_call3_c, main_while0b_call3_c_0, main_while0b_call3_c_1, main_while0b_v33,
      main_while0b_c_8, main_while0b_v34, main_v14_3, main_v14_4, main_v14_5]) :
    ∀ k, trip m k c (Proc.devRef .tc b) = entry m c (Proc.devRef .tc b)
  | 0 => rfl
  | k + 1 => (step_keep (trip m k c) b h).trans (trip_keep c b h k)

theorem trip_ctr (c : Dev nD) : ∀ k, trip m k c (Proc.devRef .tc main_v14_3) = ctr k
  | 0 => entry3 m c
  | k + 1 => by
    show afterL bodyI (after condOps (trip m k c)) (Proc.devRef .tc main_v14_3) = _
    rw [body_ctr, trip_ctr c k]
    exact funext fun _ => (Scf.iv_succ 0#32 1#32 k).symm

theorem trip_mem (c : Dev nD) : ∀ k, trip m k c (Proc.devRef .tc main_v14_4)
    = memSeq (entry m c (Proc.devRef .tc main_v14_1)) (entry m c (Proc.devRef .tc main_v14_2)) k
  | 0 => entry4 m c
  | k + 1 => by
    show afterL bodyI (after condOps (trip m k c)) (Proc.devRef .tc main_v14_4) = _
    rw [body_mem, trip_mem c k, trip_ctr, trip_keep m c main_v14_1 (by decide), trip_keep m c main_v14_2 (by decide)]
    rfl

theorem trip_outs (c : Dev nD) : ∀ k, trip m k c (Proc.devRef .tc main_v14_5)
    = outSeq (entry m c (Proc.devRef .tc main_v14_0)) (entry m c (Proc.devRef .tc main_v14_1)) (entry m c (Proc.devRef .tc main_v14_2)) k
  | 0 => entry5 m c
  | k + 1 => by
    show afterL bodyI (after condOps (trip m k c)) (Proc.devRef .tc main_v14_5) = _
    rw [body_outs, trip_mem m c k, trip_outs c k, trip_ctr, trip_keep m c main_v14_1 (by decide), trip_keep m c main_v14_2 (by decide), trip_keep m c main_v14_0 (by decide)]
    rfl

/-! ## The run -/

set_option backward.isDefEq.respectTransparency.types false in
/-- The condition reads `1` exactly while fewer than 4096 steps have run. -/
theorem cond_spec : StableHlo.CondSpec (nD := nD) (pcfgs (F := F)) defs₀ loops (main_while0_cond (F := F)) condOps bodyI (entry m) 4096 := by
  intro k hk c bd
  have hctr := trip_ctr m c k
  unfold main_while0_cond
  simp only [bind_pure]
  rw [wp_bind]
  iintro ⟨Hb, Hh⟩
  iapply (StableHlo.wp_hlo_within (Variants.lift Variants.none) (c : Thread nD τ) bd Set.univ (sub_uc _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_uc _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (trip m k c) main_v14_3 HostLoop.idx0)
        (HloOp.result _ (trip m k c) main_while0c_c_6 HostLoop.idx0) = 1#1) (k < 4096)
    rw [StableHlo.nullary_result_ne _ _ _ _ (by decide), StableHlo.nullary_result, hctr]
    exact Scf.cmpi_slt_iv_ub_iff main_while0_ok hk
  isplitl [Hb]; · iexact Hb
  iexact Hh

/-- The scan's answers from the arguments. -/
def scanOut (x : FVec F S4x4096x1024 .f32) (wq wk wv : FVec F S1024x1024 .f32) : FVec F S4096x4x16x64 .f32 :=
  outSeq (proj x wq) (proj x wk) (proj x wv) 4096

/-- The result from the scan's answers. -/
def project (o : FVec F S4096x4x16x64 .f32) (wo : FVec F S1024x1024 .f32) : FVec F S4x4096x1024 .f32 :=
  Host.dotGeneral dot_S4x4096x1024_S1024x1024_S4x4096x1024_2_0_01_1_n_n none
    (shapeCast S4x4096x1024 (transpose S4x4096x16x64 [1, 0, 2, 3] o transposes_S4096x4x16x64_S4x4096x16x64_1_0_2_3) shapeCasts_S4x4096x16x64_S4x4096x1024)
    (transpose S1024x1024 [1, 0] wo transposes_S1024x1024_S1024x1024_1_0)

abbrev final (c : Dev nD) : Valuation τ sig (Elt F) := finalContents condOps [preOps] bodyI [postOps] 4096 m c

theorem final_keep (c : Dev nD) (b : Ref sig .tc)
    (hb : b = main_arg0 ∨ b = main_arg1 ∨ b = main_arg2 ∨ b = main_arg3 ∨ b = main_arg4) : final m c (Proc.devRef .tc b) = m ((c : Thread nD τ).loc b) := by
  show after postOps (after condOps (trip m 4096 c)) (Proc.devRef .tc b) = _
  rcases hb with rfl | rfl | rfl | rfl | rfl <;>
    rw [keep post_writes (by decide), keep cond_writes (by decide), trip_keep m c _ (by decide), entry_args m c _ (by decide)]

theorem post_val (V : Valuation τ sig (Elt F)) : after postOps V (Proc.devRef .tc main_v18) = project (V (Proc.devRef .tc main_v14_5)) (V (Proc.devRef .tc main_arg4)) := by
  after_results
  rfl

/-- The program's result. -/
theorem final_out (c : Dev nD) : final m c (Proc.devRef .tc main_v18)
    = project (scanOut (m ((c : Thread nD τ).loc main_arg0)) (m ((c : Thread nD τ).loc main_arg1)) (m ((c : Thread nD τ).loc main_arg2)) (m ((c : Thread nD τ).loc main_arg3)))
        (m ((c : Thread nD τ).loc main_arg4)) := by
  show after postOps (after condOps (trip m 4096 c)) (Proc.devRef .tc main_v18) = _
  rw [post_val, keep cond_writes (by decide), keep cond_writes (by decide), trip_keep m c main_arg4 (by decide), entry_args m c main_arg4 (by decide),
    trip_outs, entry0, entry1, entry2]
  rfl

theorem pre_plain : Plain ([preOps] : List (List (HloOp τ sig (Elt F)))) :=
  .cons ⟨StableHlo.unary_bufs_sub .., StableHlo.binary_bufs_sub .., StableHlo.reshape_bufs_sub .., StableHlo.unary_bufs_sub .., StableHlo.binary_bufs_sub ..,
    StableHlo.reshape_bufs_sub .., StableHlo.unary_bufs_sub .., StableHlo.binary_bufs_sub .., StableHlo.reshape_bufs_sub .., StableHlo.unary_bufs_sub ..,
    StableHlo.unary_bufs_sub .., StableHlo.unary_bufs_sub .., StableHlo.nullary_bufs_sub .., StableHlo.unary_bufs_sub .., StableHlo.nullary_bufs_sub ..,
    StableHlo.unary_bufs_sub .., StableHlo.nullary_bufs_sub .., StableHlo.unary_bufs_sub .., StableHlo.unary_bufs_sub .., StableHlo.unary_bufs_sub ..,
    StableHlo.unary_bufs_sub .., StableHlo.unary_bufs_sub .., StableHlo.unary_bufs_sub ..⟩ .nil
theorem post_plain : Plain ([postOps] : List (List (HloOp τ sig (Elt F)))) :=
  .cons ⟨StableHlo.unary_bufs_sub .., StableHlo.reshape_bufs_sub .., StableHlo.unary_bufs_sub .., StableHlo.binary_bufs_sub ..⟩ .nil
theorem body_plain : Plain (bodyI (F := F)) :=
  .cons ⟨StableHlo.nullary_bufs_sub .., StableHlo.nullary_bufs_sub .., StableHlo.nullary_bufs_sub .., StableHlo.unaryIndexed_bufs_sub .., StableHlo.reshape_bufs_sub ..⟩ <|
  .cons ⟨StableHlo.nullary_bufs_sub .., StableHlo.nullary_bufs_sub .., StableHlo.nullary_bufs_sub .., StableHlo.unaryIndexed_bufs_sub .., StableHlo.reshape_bufs_sub ..⟩ <|
  .cons ⟨StableHlo.nullary_bufs_sub .., StableHlo.nullary_bufs_sub .., StableHlo.nullary_bufs_sub .., StableHlo.unaryIndexed_bufs_sub .., StableHlo.reshape_bufs_sub ..⟩ <|
  .cons ⟨StableHlo.binary_bufs_sub .., StableHlo.unary_bufs_sub .., StableHlo.binary_bufs_sub .., StableHlo.binary_bufs_sub .., StableHlo.nullary_bufs_sub ..,
    StableHlo.unary_bufs_sub .., StableHlo.binary_bufs_sub .., StableHlo.nullary_bufs_sub .., StableHlo.unary_bufs_sub .., StableHlo.binary_bufs_sub ..,
    StableHlo.binary_bufs_sub .., StableHlo.binary_bufs_sub .., StableHlo.unary_bufs_sub ..⟩ <|
  .cons ⟨StableHlo.unary_bufs_sub .., StableHlo.nullary_bufs_sub .., StableHlo.nullary_bufs_sub .., StableHlo.nullary_bufs_sub .., StableHlo.binaryIndexed_bufs_sub ..⟩ <|
  .cons ⟨StableHlo.nullary_bufs_sub .., StableHlo.binary_bufs_sub .., StableHlo.unary_bufs_sub .., StableHlo.unary_bufs_sub .., StableHlo.unary_bufs_sub ..⟩ .nil

theorem run [∀ e, Nonempty (Elt F e)] (ρ : Dev nD → PrngReg) :
    θ_run (defs (F := F)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = final m c (Proc.devRef .tc b)) :=
  StableHlo.run_loop (pcfgs (F := F)) defs₀ loops main 0 main_while0_cond main_while0_body rfl [preOps] bodyI [postOps] condOps
    pre_plain body_plain post_plain main_chain body_chain 4096 m ρ (cond_spec m)

/-- The run, as the claim asks: the result is the scan's answers projected, the arguments are unchanged and no counter is left over. -/
theorem run_out [∀ e, Nonempty (Elt F e)] (ρ : Dev nD → PrngReg) :
    θ_run (defs (F := F)) (onTc (τ := τ) (main (F := F))) ⟨m, fun _ => 0, ρ⟩
      (fun r => (∀ c : Dev nD, r.2.mem ((c.tc : Thread nD τ).loc main_v18)
          = project (scanOut (m ((c : Thread nD τ).loc main_arg0)) (m ((c : Thread nD τ).loc main_arg1)) (m ((c : Thread nD τ).loc main_arg2)) (m ((c : Thread nD τ).loc main_arg3)))
              (m ((c : Thread nD τ).loc main_arg4)))
        ∧ (∀ c : Dev nD, r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4))
        ∧ r.2.sem = fun _ => 0) :=
  (θ_run (defs (F := F)) _ _).mono (fun r h => ⟨fun c => (h c main_v18 rfl).trans (final_out m c),
    fun c => ⟨(h c main_arg0 rfl).trans (final_keep m c _ (by simp)), (h c main_arg1 rfl).trans (final_keep m c _ (by simp)),
      (h c main_arg2 rfl).trans (final_keep m c _ (by simp)), (h c main_arg3 rfl).trans (final_keep m c _ (by simp)),
      (h c main_arg4 rfl).trans (final_keep m c _ (by simp))⟩,
    funext fun s => no_sem.elim s.2⟩) (run m ρ)

end Cert.ReferenceIdeal.Scan

end
-- ==== Proof.Value.Regions.lean ====
/-
  The arrays that the two projections leave, over the extended reals.
-/
module

public import proofs.«01_k».proof.Proof.KernelIdeal.Proj
public import Idealize.ShloMosaic.Lib.Pointwise
public import Idealize.ShloMosaic.Lib.Pipeline.ValueKit
public import Idealize.ShloMosaic.Lib.Pipeline.Covers

@[expose] public section

set_option maxRecDepth 16384

noncomputable section

namespace Cert.KernelIdeal.Whole

open Cert.KernelIdeal.Gen Idealize.ShloMosaic
open Idealize.ShloMosaic.TcCoe

variable (V : (c : Dev nD) → (b : Ref sig .tc) → Buf (Elt Ideal) ((c : Thread nD τ).loc b))

theorem idx0 : ∀ t : Fin cfg0.N, win0_0.index t = ![(grid0.coords t 0).val, 0] ∧ win0_1.index t = ![0, (grid0.coords t 1).val]
    ∧ win0_2.index t = ![(grid0.coords t 0).val, (grid0.coords t 1).val] := by
  decide +kernel

/-- The first projection's array. -/
theorem arr0 (c : Dev nD) (a : FVec Ideal S16384x1024 .bf16) (b : FVec Ideal S1024x3072 .bf16) (ha : V c main_v2 = a) (hb : V c main_v7 = b) :
    (dat0 (F := Ideal) V c).arrAt 2 cfg0.N
      = (fun i => ∑ k : Fin 1024, (a (ix2 (i 0) k) : EReal) * (b (ix2 k (i 1)) : EReal) : FVec Ideal S16384x3072 .bf16) := by
  subst ha hb
  refine (dat0 V c).arrAt_eq_of_covers 2 _ (by decide +kernel) fun t hf y => ?_
  blk_simp
  rw [after0_2]
  unfold out0_2
  frame_out
  have i0 := (idx0 t).1
  have i1 := (idx0 t).2.1
  have i2 := (idx0 t).2.2
  idx_vars y
  pointwise [k0_pay1]

  refine Fin.sum_fin_congr fun k => ?_
  congr 1 <;> blk_ext [iblk0, i0, i1, i2]

theorem idx3 : ∀ t : Fin cfg3.N, win3_0.index t = ![(grid3.coords t 0).val, 0] ∧ win3_1.index t = ![0, (grid3.coords t 1).val]
    ∧ win3_2.index t = ![(grid3.coords t 0).val, (grid3.coords t 1).val] := by
  decide +kernel

/-- The last projection's array. -/
theorem arr3 (c : Dev nD) (a : FVec Ideal S16384x1024 .bf16) (b : FVec Ideal S1024x1024 .bf16) (ha : V c main_v10 = a) (hb : V c main_v12 = b) :
    (dat3 (F := Ideal) V c).arrAt 2 cfg3.N
      = (fun i => ∑ k : Fin 1024, (a (ix2 (i 0) k) : EReal) * (b (ix2 k (i 1)) : EReal) : FVec Ideal S16384x1024 .f32) := by
  subst ha hb
  refine (dat3 V c).arrAt_eq_of_covers 2 _ (by decide +kernel) fun t hf y => ?_
  blk_simp
  rw [after3_2]
  unfold out3_2
  frame_out
  have i0 := (idx3 t).1
  have i1 := (idx3 t).2.1
  have i2 := (idx3 t).2.2
  idx_vars y
  pointwise [k3_pay1]
  refine Fin.sum_fin_congr fun k => ?_
  congr 1 <;> blk_ext [iblk3, i0, i1, i2]

end Cert.KernelIdeal.Whole

end
-- ==== Proof.Delta.Solve.lean ====
/-
  The inverse of `I + A` for a strictly lower triangular `A` by doubling of blocks, over the reals.
-/
module

public import Mathlib.Data.Matrix.Mul
public import Mathlib.Data.Real.Basic
public import Mathlib.Tactic.Ring
public import Mathlib.Tactic.Abel
public import Mathlib.Tactic.NoncommRing

@[expose] public section

noncomputable section

namespace Cert.Delta

abbrev Mat := Matrix (Fin 128) (Fin 128) ℝ

/-- `A` is zero unless the column's step is before the row's: four rows to a step. -/
def Strict (A : Mat) : Prop := ∀ r c : Fin 128, ¬ c.val / 4 < r.val / 4 → A r c = 0

/-- The blocks of `w` rows: an odd row block against the column block before it. -/
abbrev Odd (w : ℕ) (r c : Fin 128) : Prop := r.val / w % 2 = 1 ∧ c.val / w + 1 = r.val / w

/-- `A` on the diagonal blocks of `w` rows. -/
def onBlocks (w : ℕ) (A : Mat) : Mat := fun r c => if r.val / w = c.val / w then A r c else 0

/-- `A` on the odd blocks. -/
def onOdd (w : ℕ) (A : Mat) : Mat := fun r c => if Odd w r c then A r c else 0

/-- One doubling. -/
def next (w : ℕ) (A T : Mat) : Mat := fun r c => T r c - if Odd w r c then (T * A * T) r c else 0

/-- `T` is block diagonal and inverts the diagonal blocks of `I + A`. -/
structure Inverts (w : ℕ) (A T : Mat) : Prop where
  off : ∀ r c : Fin 128, r.val / w ≠ c.val / w → T r c = 0
  inv : T * (1 + onBlocks w A) = 1

theorem sandwich {w : ℕ} {A T : Mat} (h : ∀ r c : Fin 128, r.val / w ≠ c.val / w → T r c = 0) (r c : Fin 128) :
    (T * onOdd w A * T) r c = if Odd w r c then (T * A * T) r c else 0 := by
  have key : ∀ a b : Fin 128, T r a * onOdd w A a b * T b c = if Odd w r c then T r a * A a b * T b c else 0 := by
    intro a b
    by_cases ha : r.val / w = a.val / w
    · by_cases hb : b.val / w = c.val / w
      · simp only [onOdd, Odd, ha, hb]
        split_ifs <;> simp
      · rw [h b c hb]; simp
    · rw [h r a ha]; simp
  simp only [Matrix.mul_apply, Finset.sum_mul]
  split_ifs with hc
  · exact Finset.sum_congr rfl fun b _ => Finset.sum_congr rfl fun a _ => by rw [key, if_pos hc]
  · exact Finset.sum_eq_zero fun b _ => Finset.sum_eq_zero fun a _ => by rw [key, if_neg hc]

theorem next_eq {w : ℕ} {A T : Mat} (h : ∀ r c : Fin 128, r.val / w ≠ c.val / w → T r c = 0) :
    next w A T = T - T * onOdd w A * T := by
  ext r c
  rw [Matrix.sub_apply, sandwich h]
  rfl

theorem blocks_double {w : ℕ} (hw : 0 < w) {A : Mat} (hA : Strict A) : onBlocks (w * 2) A = onBlocks w A + onOdd w A := by
  ext r c
  rw [Matrix.add_apply]
  simp only [onBlocks, onOdd, ← Nat.div_div_eq_div_mul, Odd]
  rcases Nat.lt_trichotomy (r.val / w) (c.val / w) with h | h | h
  · have hrc : r.val < c.val := by
      by_contra hh
      exact absurd (Nat.div_le_div_right (c := w) (Nat.le_of_not_lt hh)) (by omega)
    have h0 : A r c = 0 := hA r c (by omega)
    simp [h0]
  · rw [if_pos (by rw [h]), if_pos h, if_neg (by omega)]; simp
  · rw [if_neg (by omega : ¬ r.val / w = c.val / w), zero_add]
    refine if_congr ⟨fun hh => by omega, fun hh => by omega⟩ rfl rfl

theorem odd_mul_odd {w : ℕ} {A T : Mat} (h : ∀ r c : Fin 128, r.val / w ≠ c.val / w → T r c = 0) :
    onOdd w A * T * onOdd w A = 0 := by
  ext r c
  simp only [Matrix.mul_apply, Finset.sum_mul, Matrix.zero_apply]
  refine Finset.sum_eq_zero fun b _ => Finset.sum_eq_zero fun a _ => ?_
  by_cases hab : a.val / w = b.val / w
  · simp only [onOdd, Odd]
    split_ifs with h1 h2
    · omega
    · simp
    · simp
    · simp
  · rw [h a b hab]; simp

/-- A doubling inverts the blocks twice as large. -/
theorem Inverts.next {w : ℕ} (hw : 0 < w) {A T : Mat} (hA : Strict A) (h : Inverts w A T) : Inverts (w * 2) A (next w A T) where
  off r c hrc := by
    simp only [← Nat.div_div_eq_div_mul] at hrc
    unfold Cert.Delta.next
    rw [h.off r c (fun e => hrc (by rw [e])), if_neg (by rintro ⟨h1, h2⟩; omega), sub_zero]
  inv := by
    rw [next_eq h.off, blocks_double hw hA]
    have e : (T - T * onOdd w A * T) * (1 + (onBlocks w A + onOdd w A))
        = T * (1 + onBlocks w A) + T * onOdd w A - T * onOdd w A * (T * (1 + onBlocks w A)) - T * (onOdd w A * T * onOdd w A) := by
      noncomm_ring
    rw [e, h.inv, odd_mul_odd h.off]
    simp

theorem inverts_four {A : Mat} (hA : Strict A) : Inverts 4 A 1 where
  off r c h := Matrix.one_apply_ne (fun e => h (by rw [e]))
  inv := by
    have : onBlocks 4 A = 0 := by
      ext r c
      simp only [onBlocks, Matrix.zero_apply]
      split_ifs with h
      · exact hA r c (by omega)
      · rfl
    rw [this, add_zero, mul_one]

/-- The inverse from five doublings. -/
def solved (A : Mat) : Mat := next 64 A (next 32 A (next 16 A (next 8 A (next 4 A 1))))

theorem solved_mul {A : Mat} (hA : Strict A) : solved A * (1 + A) = 1 := by
  have h := ((((inverts_four hA).next (by decide) hA).next (by decide) hA).next (by decide) hA).next (by decide) hA |>.next (by decide) hA
  have e : onBlocks (4 * 2 * 2 * 2 * 2 * 2) A = A := by
    ext r c
    exact if_pos (by have := r.isLt; have := c.isLt; omega)
  have := h.inv
  rw [e] at this
  exact this

end Cert.Delta

end
-- ==== Proof.Delta.Chunk.lean ====
/-
  A chunk of the delta rule's scan: the memory, the errors and the answers of 32 steps of four rows, from the memory before them.
-/
module

public import proofs.«01_k».proof.Proof.Delta.Solve
public import Mathlib.Algebra.BigOperators.Fin
public import Mathlib.Logic.Equiv.Fin.Basic
public import Mathlib.Tactic.Linarith
public import Mathlib.Tactic.FieldSimp

@[expose] public section

noncomputable section

namespace Cert.Delta

/-- One head's rows: step, batch, lane. -/
abbrev Rows := ℕ → Fin 4 → Fin 64 → ℝ

variable (lr : ℝ) (k v q : Rows)

/-- The memory before a step: values' lane, keys' lane. -/
def mem : ℕ → Fin 64 → Fin 64 → ℝ
  | 0 => fun _ _ => 0
  | s + 1 => fun d e => mem s d e + lr * ((∑ b : Fin 4, (v s b d - ∑ e', k s b e' * mem s d e') * k s b e) / 4)

/-- The error of a step. -/
def err (s : ℕ) (b : Fin 4) (d : Fin 64) : ℝ := v s b d - ∑ e, k s b e * mem lr k v s d e

/-- The answer of a step. -/
def ans (s : ℕ) (b : Fin 4) (d : Fin 64) : ℝ := ∑ e, q s b e * mem lr k v (s + 1) d e

theorem mem_succ (s : ℕ) (d e : Fin 64) :
    mem lr k v (s + 1) d e = mem lr k v s d e + lr / 4 * ∑ b : Fin 4, k s b e * err lr k v s b d := by
  show mem lr k v s d e + lr * ((∑ b : Fin 4, (v s b d - ∑ e', k s b e' * mem lr k v s d e') * k s b e) / 4) = _
  unfold err
  rw [Finset.sum_congr rfl fun b _ => mul_comm (v s b d - ∑ e', k s b e' * mem lr k v s d e') (k s b e)]
  ring

/-- A row of a chunk: its batch. -/
abbrev bat (r : Fin 128) : Fin 4 := ⟨r.val % 4, Nat.mod_lt _ (by decide)⟩

/-- The rows of a chunk that starts at step `s`. -/
def rowsAt (x : Rows) (s : ℕ) (r : Fin 128) (e : Fin 64) : ℝ := x (s + r.val / 4) (bat r) e

/-- The errors of a chunk. -/
def errAt (s : ℕ) (r : Fin 128) (d : Fin 64) : ℝ := err lr k v (s + r.val / 4) (bat r) d

theorem sum_step (f : Fin 128 → ℝ) (t : ℕ) (ht : t < 32) :
    (∑ c : Fin 128, if c.val / 4 = t then f c else 0) = ∑ b : Fin 4, f ⟨4 * t + b.val, by omega⟩ := by
  rw [← (finProdFinEquiv (m := 32) (n := 4)).sum_comp, Fintype.sum_prod_type]
  rw [Finset.sum_eq_single (⟨t, ht⟩ : Fin 32)]
  · refine Finset.sum_congr rfl fun b _ => ?_
    rw [if_pos]
    · refine congrArg f (Fin.ext ?_)
      show b.val + 4 * t = 4 * t + b.val
      omega
    · show (b.val + 4 * t) / 4 = t
      omega
  · intro t' _ hne
    refine Finset.sum_eq_zero fun b _ => if_neg ?_
    show ¬ (b.val + 4 * t'.val) / 4 = t
    intro h
    exact hne (Fin.ext (by show t'.val = t; omega))
  · intro h; exact absurd (Finset.mem_univ _) h

/-- The memory within a chunk, from the memory before it and the errors. -/
theorem mem_within (s : ℕ) (d e : Fin 64) : ∀ t : ℕ, t ≤ 32 →
    mem lr k v (s + t) d e = mem lr k v s d e
      + lr / 4 * ∑ c : Fin 128, if c.val / 4 < t then rowsAt k s c e * errAt lr k v s c d else 0
  | 0, _ => by simp
  | t + 1, ht => by
    rw [← Nat.add_assoc, mem_succ, mem_within s d e t (by omega)]
    have h1 : (∑ c : Fin 128, if c.val / 4 < t + 1 then rowsAt k s c e * errAt lr k v s c d else 0)
        = (∑ c : Fin 128, if c.val / 4 < t then rowsAt k s c e * errAt lr k v s c d else 0)
          + ∑ c : Fin 128, if c.val / 4 = t then rowsAt k s c e * errAt lr k v s c d else 0 := by
      rw [← Finset.sum_add_distrib]
      refine Finset.sum_congr rfl fun c _ => ?_
      rcases Nat.lt_trichotomy (c.val / 4) t with h | h | h
      · rw [if_pos (by omega), if_pos h, if_neg (by omega), add_zero]
      · rw [if_pos (by omega), if_neg (by omega), if_pos h, zero_add]
      · rw [if_neg (by omega), if_neg (by omega), if_neg (by omega), add_zero]
    rw [h1, sum_step _ t (by omega)]
    have h2 : ∀ b : Fin 4, rowsAt k s ⟨4 * t + b.val, by omega⟩ e * errAt lr k v s ⟨4 * t + b.val, by omega⟩ d
        = k (s + t) b e * err lr k v (s + t) b d := by
      intro b
      have hq : (4 * t + b.val) / 4 = t := by omega
      have hr : bat ⟨4 * t + b.val, by omega⟩ = b := Fin.ext (by show (4 * t + b.val) % 4 = b.val; omega)
      simp only [rowsAt, errAt, hq, hr]
    rw [Finset.sum_congr rfl fun b _ => h2 b]
    ring

theorem mem_chunk (s : ℕ) (d e : Fin 64) :
    mem lr k v (s + 32) d e = mem lr k v s d e + lr / 4 * ∑ c : Fin 128, rowsAt k s c e * errAt lr k v s c d := by
  rw [mem_within lr k v s d e 32 (le_refl _)]
  rw [Finset.sum_congr rfl fun c _ => if_pos (by omega : c.val / 4 < 32)]

/-- The scaled products of a chunk's keys, strictly before. -/
def gramAt (s : ℕ) : Mat := fun r c =>
  if c.val / 4 < r.val / 4 then lr / 4 * ∑ e, rowsAt k s r e * rowsAt k s c e else 0

theorem gramAt_strict (s : ℕ) : Strict (gramAt lr k s) := fun _ _ h => if_neg h

/-- The sum of a row's products with the memory within the chunk. -/
theorem row_mem (y : Rows) (s : ℕ) (r : Fin 128) (d : Fin 64) (t : ℕ) (ht : t ≤ 32) :
    ∑ e, rowsAt y s r e * mem lr k v (s + t) d e
      = ∑ e, rowsAt y s r e * mem lr k v s d e
        + ∑ c : Fin 128, (if c.val / 4 < t then lr / 4 * ∑ e, rowsAt y s r e * rowsAt k s c e else 0) * errAt lr k v s c d := by
  rw [Finset.sum_congr rfl fun e _ => by rw [mem_within lr k v s d e t ht, mul_add], Finset.sum_add_distrib]
  congr 1
  have : ∀ e : Fin 64, rowsAt y s r e * (lr / 4 * ∑ c : Fin 128, if c.val / 4 < t then rowsAt k s c e * errAt lr k v s c d else 0)
      = ∑ c : Fin 128, if c.val / 4 < t then lr / 4 * (rowsAt y s r e * rowsAt k s c e) * errAt lr k v s c d else 0 := by
    intro e
    rw [Finset.mul_sum, Finset.mul_sum]
    refine Finset.sum_congr rfl fun c _ => ?_
    split_ifs
    · ring
    · simp
  rw [Finset.sum_congr rfl fun e _ => this e, Finset.sum_comm]
  refine Finset.sum_congr rfl fun c _ => ?_
  split_ifs
  · rw [Finset.mul_sum, Finset.sum_mul]
  · simp

/-- The errors solve the chunk's triangular system. -/
theorem err_system (s : ℕ) (r : Fin 128) (d : Fin 64) :
    errAt lr k v s r d + ∑ c, gramAt lr k s r c * errAt lr k v s c d
      = rowsAt v s r d - ∑ e, rowsAt k s r e * mem lr k v s d e := by
  have h := row_mem lr k v k s r d (r.val / 4) (by omega)
  have e1 : errAt lr k v s r d = rowsAt v s r d - ∑ e, rowsAt k s r e * mem lr k v (s + r.val / 4) d e := rfl
  rw [e1, h]
  unfold gramAt
  ring

/-- The errors of a chunk, from the inverse. -/
theorem err_solved (s : ℕ) (r : Fin 128) (d : Fin 64) :
    errAt lr k v s r d
      = ∑ c, solved (gramAt lr k s) r c * rowsAt v s c d
        - ∑ e, (∑ c, solved (gramAt lr k s) r c * rowsAt k s c e) * mem lr k v s d e := by
  have hT := solved_mul (gramAt_strict lr k s)
  set T := solved (gramAt lr k s)
  let E : Matrix (Fin 128) (Fin 64) ℝ := fun r d => errAt lr k v s r d
  let S : Matrix (Fin 128) (Fin 64) ℝ := (1 + gramAt lr k s) * E
  have h1 : E = T * S := by show E = T * ((1 + gramAt lr k s) * E); rw [← Matrix.mul_assoc, hT, Matrix.one_mul]
  have h2 : ∀ c d, S c d = rowsAt v s c d - ∑ e, rowsAt k s c e * mem lr k v s d e := by
    intro c d
    show ((1 + gramAt lr k s) * E : Matrix (Fin 128) (Fin 64) ℝ) c d = _
    rw [Matrix.add_mul, Matrix.one_mul, Matrix.add_apply, Matrix.mul_apply]
    exact err_system lr k v s c d
  have h3 : errAt lr k v s r d = (T * S : Matrix (Fin 128) (Fin 64) ℝ) r d := congrFun (congrFun h1 r) d
  rw [h3, Matrix.mul_apply, Finset.sum_congr rfl fun c _ => by rw [h2 c d, mul_sub], Finset.sum_sub_distrib]
  congr 1
  rw [Finset.sum_congr rfl fun c _ => Finset.mul_sum _ _ _, Finset.sum_comm]
  refine Finset.sum_congr rfl fun e _ => ?_
  rw [Finset.sum_mul]
  exact Finset.sum_congr rfl fun c _ => (mul_assoc _ _ _).symm

/-- The answers of a chunk. -/
theorem ans_chunk (s : ℕ) (r : Fin 128) (d : Fin 64) :
    ans lr k v q (s + r.val / 4) (bat r) d
      = ∑ e, rowsAt q s r e * mem lr k v s d e
        + ∑ c : Fin 128, (if c.val / 4 ≤ r.val / 4 then lr / 4 * ∑ e, rowsAt q s r e * rowsAt k s c e else 0) * errAt lr k v s c d := by
  have h := row_mem lr k v q s r d (r.val / 4 + 1) (by omega)
  have e1 : ans lr k v q (s + r.val / 4) (bat r) d = ∑ e, rowsAt q s r e * mem lr k v (s + (r.val / 4 + 1)) d e := rfl
  rw [e1, h]
  simp only [Nat.lt_succ_iff]

end Cert.Delta

end
-- ==== Proof.Value.Heads.lean ====
/-
  The heads' rows of a projection, over the reals; the learning rate; sums of reals.
-/
module

public import proofs.«01_k».proof.Proof.Delta.Chunk
public import Mathlib.Data.EReal.Operations

@[expose] public section

noncomputable section

namespace Cert.Delta

/-- A sum of reals as a sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The learning rate: the value of the word of a tenth. -/
abbrev rate : ℝ := 13421773 / 134217728

/-- Rows of head `hd`: the products of the input's rows with the head's 64 rows of the weight. -/
def headRows (x : Fin 4 → Fin 4096 → Fin 1024 → ℝ) (w : Fin 1024 → Fin 1024 → ℝ) (hd : ℕ) : Rows := fun s b e =>
  if h : s < 4096 ∧ hd < 16 then ∑ i, x b ⟨s, h.1⟩ i * w ⟨64 * hd + e.val, by omega⟩ i else 0

theorem headRows_of (x : Fin 4 → Fin 4096 → Fin 1024 → ℝ) (w : Fin 1024 → Fin 1024 → ℝ) (h : Fin 16) (s : Fin 4096) (b : Fin 4) (e : Fin 64) :
    headRows x w h.val s.val b e = ∑ i, x b s i * w ⟨64 * h.val + e.val, by omega⟩ i :=
  dif_pos ⟨s.isLt, h.isLt⟩

end Cert.Delta

end
-- ==== Proof.Value.Pair.lean ====
/-
  What one chunk of the second call writes, over the extended reals: the inverses of the two heads' systems times their values and keys.
-/
module

public import proofs.«01_k».proof.Proof.KernelIdeal.Chunk
public import proofs.«01_k».proof.Proof.Value.Heads
public import Idealize.ShloMosaic.Lib.Pointwise

@[expose] public section

set_option maxRecDepth 16384

noncomputable section

namespace Cert.KernelIdeal.Whole

open Cert.KernelIdeal.Gen Idealize.ShloMosaic Cert.Delta

/-- Lane `c` of matrix `h` of a pair. -/
abbrev lane (h : Fin 2) (c : Fin 128) : Fin 256 := ⟨128 * h.val + c.val, by omega⟩

theorem sum_lanes {M : Type} [AddCommMonoid M] (f : Fin 256 → M) : ∑ i, f i = ∑ h : Fin 2, ∑ c : Fin 128, f (lane h c) := by
  rw [← (finProdFinEquiv (m := 2) (n := 128)).sum_comp, Fintype.sum_prod_type]
  refine Finset.sum_congr rfl fun h _ => Finset.sum_congr rfl fun c _ => congrArg f (Fin.ext ?_)
  show c.val + 128 * h.val = 128 * h.val + c.val
  omega

/-! ## The masks -/

theorem colM_at (r : Fin 128) (h : Fin 2) (c : Fin 128) : colM (ix2 r (lane h c)) = BitVec.ofNat 32 c.val := by
  pointwise [colM, colI]
  revert h c; decide +kernel
theorem rowI_at (r : Fin 128) (j : Fin 256) : rowI (ix2 r j) = BitVec.ofNat 32 r.val := by
  pointwise [rowI]
theorem loHalf_at (r : Fin 128) (h : Fin 2) (c : Fin 128) : loHalf (ix2 r (lane h c)) = if h = 0 then 1#1 else 0#1 := by
  pointwise [loHalf, colI]
  revert h c; decide +kernel
theorem slt_word : ∀ a b : Fin 128, IntOp.cmpi .slt (BitVec.ofNat 32 a.val) (BitVec.ofNat 32 b.val) = if a.val < b.val then 1#1 else 0#1 := by
  decide +kernel
theorem eq_word : ∀ a b : Fin 128, IntOp.cmpi .eq (BitVec.ofNat 32 a.val) (BitVec.ofNat 32 b.val) = if a.val = b.val then 1#1 else 0#1 := by
  decide +kernel
theorem shr2_word : ∀ a : Fin 128, IntOp.shrsi .vector (BitVec.ofNat 32 a.val) 2#32 = BitVec.ofNat 32 (a.val / 4) := by
  decide +kernel

theorem strictP_at (r : Fin 128) (h : Fin 2) (c : Fin 128) : strictP (ix2 r (lane h c)) = if c.val / 4 < r.val / 4 then 1#1 else 0#1 := by
  have h1 := shr2_word c
  have h2 := shr2_word r
  pointwise [strictP]
  rw [colM_at, rowI_at, h1, h2]
  exact slt_word ⟨c.val / 4, by omega⟩ ⟨r.val / 4, by omega⟩

/-- What the odd mask's word says of one shift. -/
def OddWord (sh : BitVec 32) (w : ℕ) : Prop := ∀ r c : Fin 128,
  IntOp.andi (IntOp.cmpi .eq (IntOp.andi (IntOp.shrsi .vector (BitVec.ofNat 32 r.val) sh) 1#32) 1#32)
    (IntOp.cmpi .eq (IntOp.shrsi .vector (BitVec.ofNat 32 c.val) sh) (IntOp.subi (IntOp.shrsi .vector (BitVec.ofNat 32 r.val) sh) 1#32))
      = if Odd w r c then 1#1 else 0#1

theorem oddWord2 : OddWord 2#32 4 := by unfold OddWord; decide +kernel
theorem oddWord3 : OddWord 3#32 8 := by unfold OddWord; decide +kernel
theorem oddWord4 : OddWord 4#32 16 := by unfold OddWord; decide +kernel
theorem oddWord5 : OddWord 5#32 32 := by unfold OddWord; decide +kernel
theorem oddWord6 : OddWord 6#32 64 := by unfold OddWord; decide +kernel

theorem oddPair_at {sh : BitVec 32} {w : ℕ} (hw : OddWord sh w) (r : Fin 128) (h : Fin 2) (c : Fin 128) :
    oddPair sh (ix2 r (lane h c)) = if Odd w r c then 1#1 else 0#1 := by
  pointwise [oddPair]
  rw [colM_at, rowI_at]
  exact hw r c

/-! ## Pairs of matrices -/

/-- A packed pair of matrices holds two real matrices. -/
def IsPair {φ : FTy} (t : FVec Ideal S128x256 φ) (A : Fin 2 → Mat) : Prop :=
  ∀ (h : Fin 2) (r c : Fin 128), (t (ix2 r (lane h c)) : EReal) = ((A h r c : ℝ) : EReal)

theorem blockDiag_at {u : FVec Ideal S128x256 .bf16} (h' h : Fin 2) (c' c : Fin 128) :
    blockDiag u (ix2 (lane h' c') (lane h c)) = if h' = h then u (ix2 c' (lane h c)) else 0 := by
  have e := loHalf_at c' h c
  revert e
  pointwise [blockDiag, loHalf, colI]
  intro e
  rw [e]
  fin_cases h' <;> fin_cases h
  · rw [dif_pos (by show 128 * 0 + c'.val < 128; omega)]
    exact congrArg u (congrArg₂ ix2 (Fin.ext (by show 128 * 0 + c'.val = c'.val; omega)) rfl)
  · rw [dif_pos (by show 128 * 0 + c'.val < 128; omega)]
    rfl
  · rw [dif_neg (by show ¬ 128 * 1 + c'.val < 128; omega)]
    rfl
  · rw [dif_neg (by show ¬ 128 * 1 + c'.val < 128; omega)]
    exact congrArg u (congrArg₂ ix2 (Fin.ext (by show 128 * 1 + c'.val - 128 = c'.val; omega)) rfl)

theorem IsPair.mul {t u : FVec Ideal S128x256 .bf16} {A B : Fin 2 → Mat} (ht : IsPair t A) (hu : IsPair u B) :
    IsPair (pairMul t (blockDiag u)) (fun h => A h * B h) := by
  intro h r c
  pointwise [pairMul]
  rw [sum_lanes, Finset.sum_eq_single h]
  · rw [Matrix.mul_apply, coe_sum]
    refine Finset.sum_congr rfl fun a _ => ?_
    rw [blockDiag_at, if_pos rfl, ht, hu, EReal.coe_mul]
  · intro h' _ hne
    refine Finset.sum_eq_zero fun a _ => ?_
    rw [blockDiag_at, if_neg hne, mul_zero]
  · intro hh; exact absurd (Finset.mem_univ _) hh

theorem IsPair.double {sh : BitVec 32} {w : ℕ} (hw : OddWord sh w) {t u : FVec Ideal S128x256 .bf16} {A T : Fin 2 → Mat}
    (ht : IsPair t T) (hu : IsPair u A) : IsPair (double sh (blockDiag u) t) (fun h => next w (A h) (T h)) := by
  intro h r c
  have hm := (ht.mul hu).mul ht h r c
  have ho := oddPair_at hw r h c
  pointwise [Whole.double]
  rw [ho, hm, ht h r c]
  unfold next
  split_ifs
  · rw [EReal.coe_sub]; rfl
  · simp [Scalar.select]

/-! ## The Gram matrices and the inverses -/

theorem sqrtBeta_val : (sqrtBeta (F := Ideal) : EReal) = ((Real.sqrt (13421773 / 536870912) : ℝ) : EReal) :=
  IdealRules.named_const.ideal_named_scalar _ _ _ _ rfl

/-- The named constant squares to the learning rate over the batch. -/
theorem beta_sq : Real.sqrt (13421773 / 536870912) * Real.sqrt (13421773 / 536870912) = rate / 4 := by
  rw [Real.mul_self_sqrt (by norm_num)]; norm_num

/-- A block of two heads' lanes holds two heads' rows. -/
def IsRows {φ : FTy} (x : FVec Ideal S128x128 φ) (f : Fin 2 → Fin 128 → Fin 64 → ℝ) : Prop :=
  ∀ (h : Fin 2) (r : Fin 128) (e : Fin 64), (x (ix2 r ⟨64 * h.val + e.val, by omega⟩) : EReal) = ((f h r e : ℝ) : EReal)

/-- The scaled products of two heads' rows of keys. -/
def products (f : Fin 2 → Fin 128 → Fin 64 → ℝ) (h : Fin 2) : Mat := fun r c => rate / 4 * ∑ e, f h r e * f h c e

theorem gram_pair {k : Vec Ideal S128x128 .bf16} {f : Fin 2 → Fin 128 → Fin 64 → ℝ} (hk : IsRows (φ := .bf16) k f) :
    IsPair (φ := .f32) (gram (F := Ideal) k) (products f) := by
  have key : ∀ (h : Fin 2) (r c : Fin 128) (e : Fin 64),
      (k (ix2 r ⟨64 * h.val + e.val, by omega⟩) : EReal) * (sqrtBeta (F := Ideal) : EReal) * ((k (ix2 c ⟨64 * h.val + e.val, by omega⟩) : EReal) * (sqrtBeta (F := Ideal) : EReal))
        = ((rate / 4 * (f h r e * f h c e) : ℝ) : EReal) := by
    intro h r c e
    rw [hk, hk, sqrtBeta_val, ← EReal.coe_mul, ← EReal.coe_mul, ← EReal.coe_mul, ← beta_sq]
    congr 1
    ring
  intro h r c
  show _ = ((rate / 4 * ∑ e, f h r e * f h c e : ℝ) : EReal)
  rw [Finset.mul_sum, coe_sum, ← Finset.sum_congr rfl fun e _ => key h r c e]
  pointwise [gram, gram1]
  fin_cases h
  · rw [dif_pos (by show 128 * 0 + c.val < 128; omega)]
    refine Finset.sum_congr rfl fun e _ => ?_
    simp
  · rw [dif_neg (by show ¬ 128 * 1 + c.val < 128; omega)]
    refine Finset.sum_congr rfl fun e _ => ?_
    simp

/-- The system's matrix of each head. -/
def lower (f : Fin 2 → Fin 128 → Fin 64 → ℝ) (h : Fin 2) : Mat := fun r c => if c.val / 4 < r.val / 4 then products f h r c else 0

theorem strict_pair {k : Vec Ideal S128x128 .bf16} {f : Fin 2 → Fin 128 → Fin 64 → ℝ} (hk : IsRows (φ := .bf16) k f) :
    IsPair (φ := .bf16) (masked (F := Ideal) strictP (gram k)) (lower f) := by
  intro h r c
  have hg := gram_pair hk h r c
  have hs := strictP_at r h c
  pointwise [masked]
  rw [hg, hs]
  unfold lower
  split_ifs <;> simp [Scalar.select]

theorem start_pair {k : Vec Ideal S128x128 .bf16} {f : Fin 2 → Fin 128 → Fin 64 → ℝ} (hk : IsRows (φ := .bf16) k f) :
    IsPair (φ := .bf16) (startT (F := Ideal) k) (fun h => next 4 (lower f h) 1) := by
  intro h r c
  have hg := gram_pair hk h r c
  have hs := oddPair_at oddWord2 r h c
  have hc := colM_at r h c
  have hr := rowI_at r (lane h c)
  pointwise [startT, masked, identP]
  rw [hg, hs, hc, hr, eq_word]
  unfold next
  rw [one_mul, mul_one, EReal.coe_sub]
  congr 1
  · by_cases e : c = r
    · subst e; simp [Scalar.select]
    · rw [if_neg (fun h => e (Fin.ext h)), Matrix.one_apply_ne (fun h => e h.symm)]; simp [Scalar.select]
  · split_ifs with ho
    · unfold lower
      rw [if_pos (by have := ho.2; omega)]
      rfl
    · simp [Scalar.select]

theorem solved_pair {k : Vec Ideal S128x128 .bf16} {f : Fin 2 → Fin 128 → Fin 64 → ℝ} (hk : IsRows (φ := .bf16) k f) :
    IsPair (φ := .bf16) (solvedT (F := Ideal) k) (fun h => solved (lower f h)) :=
  ((((start_pair hk).double oddWord3 (strict_pair hk)).double oddWord4 (strict_pair hk)).double oddWord5 (strict_pair hk)).double oddWord6 (strict_pair hk)

/-! ## The right side and the chunk -/

/-- Lane `e` of head `h` of the values (`u = 0`) or the keys (`u = 1`). -/
abbrev lane4 (u h : Fin 2) (e : Fin 64) : Fin 256 := ⟨128 * u.val + 64 * h.val + e.val, by omega⟩

theorem even64_at (r : Fin 128) (u h : Fin 2) (e : Fin 64) : even64 (ix2 r (lane4 u h e)) = if h = 0 then 1#1 else 0#1 := by
  pointwise [even64, colI]
  revert u h e; decide +kernel

theorem rhs_at {k v : Vec Ideal S128x128 .bf16} {f g : Fin 2 → Fin 128 → Fin 64 → ℝ} (hk : IsRows (φ := .bf16) k f) (hv : IsRows (φ := .bf16) v g)
    (h' : Fin 2) (c : Fin 128) (u h : Fin 2) (e : Fin 64) :
    (rhsD (F := Ideal) k v (ix2 (lane h' c) (lane4 u h e)) : EReal)
      = if h' = h then (((if u = 0 then g h c e else f h c e) : ℝ) : EReal) else 0 := by
  have hev := even64_at c u h e
  have hk' := hk h c e
  have hv' := hv h c e
  revert hev
  pointwise [rhsD, even64, colI]
  intro hev
  rw [hev]
  fin_cases h' <;> fin_cases h <;> fin_cases u <;> simp_all [Scalar.select]
  · intro h
    exact absurd h (by omega)
  · intro h
    exact absurd h (by omega)
  · rw [dif_neg (by omega)]
    exact (congrArg k (congrArg₂ ix2 rfl (Fin.ext (by show 192 + e.val - 128 = 64 + e.val; omega)))).trans hk'

theorem chunk_at {k v : Vec Ideal S128x128 .bf16} {f g : Fin 2 → Fin 128 → Fin 64 → ℝ} (hk : IsRows (φ := .bf16) k f) (hv : IsRows (φ := .bf16) v g)
    (r : Fin 128) (u h : Fin 2) (e : Fin 64) :
    (chunkWX (F := Ideal) k v (ix2 r (lane4 u h e)) : EReal)
      = ((∑ c, solved (lower f h) r c * (if u = 0 then g h c e else f h c e) : ℝ) : EReal) := by
  have hT := solved_pair hk
  have hR := rhs_at hk hv
  pointwise [chunkWX, pairMul]
  rw [sum_lanes, Finset.sum_eq_single h]
  · rw [coe_sum]
    refine Finset.sum_congr rfl fun a _ => ?_
    rw [hR, if_pos rfl, hT, EReal.coe_mul]
  · intro h' _ hne
    refine Finset.sum_eq_zero fun a _ => ?_
    rw [hR, if_neg hne, mul_zero]
  · intro hh; exact absurd (Finset.mem_univ _) hh

end Cert.KernelIdeal.Whole

end
-- ==== Proof.Value.Quad.lean ====
/-
  What one step of the third call writes, over the extended reals: the outputs of a chunk of four heads and the memory after it.
-/
module

public import proofs.«01_k».proof.Proof.KernelIdeal.SweepVal
public import proofs.«01_k».proof.Proof.Value.Pair

@[expose] public section

set_option maxRecDepth 16384

noncomputable section

namespace Cert.KernelIdeal.Whole

open Cert.KernelIdeal.Gen Idealize.ShloMosaic Cert.Delta

/-- Lane `e` of head `h` of four. -/
abbrev lane64 (h : Fin 4) (e : Fin 64) : Fin 256 := ⟨64 * h.val + e.val, by omega⟩
/-- Row or lane `c` of head `h` of four. -/
abbrev lane128 (h : Fin 4) (c : Fin 128) : Fin 512 := ⟨128 * h.val + c.val, by omega⟩

theorem sum_lane64 {M : Type} [AddCommMonoid M] (f : Fin 256 → M) : ∑ i, f i = ∑ h : Fin 4, ∑ c : Fin 64, f (lane64 h c) := by
  rw [← (finProdFinEquiv (m := 4) (n := 64)).sum_comp, Fintype.sum_prod_type]
  refine Finset.sum_congr rfl fun h _ => Finset.sum_congr rfl fun c _ => congrArg f (Fin.ext ?_)
  show c.val + 64 * h.val = 64 * h.val + c.val
  omega
theorem sum_lane128 {M : Type} [AddCommMonoid M] (f : Fin 512 → M) : ∑ i, f i = ∑ h : Fin 4, ∑ c : Fin 128, f (lane128 h c) := by
  rw [← (finProdFinEquiv (m := 4) (n := 128)).sum_comp, Fintype.sum_prod_type]
  refine Finset.sum_congr rfl fun h _ => Finset.sum_congr rfl fun c _ => congrArg f (Fin.ext ?_)
  show c.val + 128 * h.val = 128 * h.val + c.val
  omega

/-- Four heads' rows, side by side. -/
def IsQuad {φ : FTy} (x : FVec Ideal S128x256 φ) (f : Fin 4 → Fin 128 → Fin 64 → ℝ) : Prop :=
  ∀ (h : Fin 4) (r : Fin 128) (e : Fin 64), (x (ix2 r (lane64 h e)) : EReal) = ((f h r e : ℝ) : EReal)
/-- One head's rows. -/
def IsHead {φ : FTy} (x : FVec Ideal S128x64 φ) (f : Fin 128 → Fin 64 → ℝ) : Prop :=
  ∀ (r : Fin 128) (e : Fin 64), (x (ix2 r e) : EReal) = ((f r e : ℝ) : EReal)
/-- Four heads' memories, side by side and each transposed. -/
def IsMem {φ : FTy} (n : FVec Ideal S64x256 φ) (M : Fin 4 → Fin 64 → Fin 64 → ℝ) : Prop :=
  ∀ (h : Fin 4) (d e : Fin 64), (n (ix2 e (lane64 h d)) : EReal) = ((M h d e : ℝ) : EReal)

theorem laneWord : ∀ (h : Fin 4) (e : Fin 64) (i : Fin 4),
    IntOp.cmpi .eq (IntOp.shrsi .vector (BitVec.ofNat 32 (lane64 h e).val) 6#32) (BitVec.ofNat 32 i.val) = if i = h then 1#1 else 0#1 := by
  decide +kernel

theorem laneN_at {n : FVec Ideal S64x256 .bf16} (i h : Fin 4) (d e : Fin 64) :
    laneN (BitVec.ofNat 32 i.val) n (ix2 e (lane64 h d)) = if i = h then n (ix2 e (lane64 h d)) else 0 := by
  have hw := laneWord h d i
  pointwise [laneN]
  rw [hw]
  split_ifs <;> simp [Scalar.select]

theorem laneE_at {n : FVec Ideal S128x256 .bf16} (i h : Fin 4) (c : Fin 128) (e : Fin 64) :
    laneE (BitVec.ofNat 32 i.val) n (ix2 c (lane64 h e)) = if i = h then n (ix2 c (lane64 h e)) else 0 := by
  have hw := laneWord h e i
  pointwise [laneE]
  rw [hw]
  split_ifs <;> simp [Scalar.select]

theorem diagN_at {n : FVec Ideal S64x256 .bf16} (i h : Fin 4) (d e : Fin 64) :
    diagN n (ix2 (lane64 i e) (lane64 h d)) = if i = h then n (ix2 e (lane64 h d)) else 0 := by
  rw [← laneN_at i h d e]
  pointwise [diagN]
  obtain ⟨i, hi⟩ := i
  dsimp only
  interval_cases i <;> split_ifs <;>
    first
    | omega
    | exact congrArg (laneN _ n) (congrArg₂ ix2 (Fin.ext (by dsimp only; omega)) rfl)

theorem diagE_at {n : FVec Ideal S128x256 .bf16} (i h : Fin 4) (c : Fin 128) (e : Fin 64) :
    diagE n (ix2 (lane128 i c) (lane64 h e)) = if i = h then n (ix2 c (lane64 h e)) else 0 := by
  rw [← laneE_at i h c e]
  pointwise [diagE]
  obtain ⟨i, hi⟩ := i
  dsimp only
  interval_cases i <;> split_ifs <;>
    first
    | omega
    | exact congrArg (laneE _ n) (congrArg₂ ix2 (Fin.ext (by dsimp only; omega)) rfl)

/-- The keys' factor against the memory in the upper rows, the queries against it in the lower. -/
theorem readN_at {x q : FVec Ideal S128x256 .bf16} {n : FVec Ideal S64x256 .f32} {X Q : Fin 4 → Fin 128 → Fin 64 → ℝ} {M : Fin 4 → Fin 64 → Fin 64 → ℝ}
    (hx : IsQuad x X) (hq : IsQuad q Q) (hn : IsMem n M) (u : Fin 2) (r : Fin 128) (h : Fin 4) (d : Fin 64) :
    (readN x q n (ix2 (lane u r) (lane64 h d)) : EReal) = ((∑ e, (if u = 0 then X h r e else Q h r e) * M h d e : ℝ) : EReal) := by
  have hd := fun i e => diagN_at (n := truncf .bf16 n bitsLt_bf16_f32) i h d e
  have ht : ∀ e, (truncf .bf16 n bitsLt_bf16_f32 (ix2 e (lane64 h d)) : EReal) = ((M h d e : ℝ) : EReal) := fun e => hn h d e
  pointwise [readN]
  rw [sum_lane64, Finset.sum_eq_single h]
  · rw [coe_sum]
    refine Finset.sum_congr rfl fun e _ => ?_
    refine (congrArg₂ (· * ·) ?_ ((hd h e).trans ((if_pos rfl).trans (ht e)))).trans (EReal.coe_mul _ _).symm
    obtain ⟨u, hu⟩ := u
    interval_cases u <;> dsimp only
    · rw [dif_pos (by omega)]
      exact (congrArg x (congrArg₂ ix2 (Fin.ext (by dsimp only; omega)) rfl)).trans (hx h r e)
    · rw [dif_neg (by omega)]
      exact (congrArg q (congrArg₂ ix2 (Fin.ext (by dsimp only; omega)) rfl)).trans (hq h r e)
  · intro i _ hne
    refine Finset.sum_eq_zero fun e _ => ?_
    exact (congrArg₂ (· * ·) rfl ((hd i e).trans (if_neg hne))).trans (mul_zero _)
  · intro hh; exact absurd (Finset.mem_univ _) hh

theorem sle_word : ∀ a b : Fin 128, IntOp.cmpi .sle (BitVec.ofNat 32 a.val) (BitVec.ofNat 32 b.val) = if a.val ≤ b.val then 1#1 else 0#1 := by
  decide +kernel

theorem beta_val : Ideal.ofBits .f32 0x3CCCCCCD#32 = ((rate / 4 : ℝ) : EReal) := by
  simp [Ideal.ofBits, Ideal.ieee, -EReal.coe_mul]
  norm_num

theorem attn1_at {q : FVec Ideal S128x64 .bf16} {k : Vec Ideal S128x64 .bf16} {Q K : Fin 128 → Fin 64 → ℝ} (hq : IsHead q Q) (hk : IsHead (φ := .bf16) k K) (r c : Fin 128) :
    (attn1 q k (ix2 r c) : EReal) = (((if c.val / 4 ≤ r.val / 4 then rate / 4 * ∑ e, Q r e * K c e else 0) : ℝ) : EReal) := by
  have h1 := shr2_word c
  have h2 := shr2_word r
  have h3 := sle_word ⟨c.val / 4, by omega⟩ ⟨r.val / 4, by omega⟩
  pointwise [attn1, inclP, betaS]
  rw [h1, h2, beta_val]
  dsimp only at h3
  rw [h3]
  split_ifs
  · rw [EReal.coe_mul, coe_sum]
    show _ * _ = _ * _
    congr 1
    refine Finset.sum_congr rfl fun e _ => ?_
    rw [hq, hk, EReal.coe_mul]
  · simp [Scalar.select]

theorem upd1_at {k : Vec Ideal S128x64 .bf16} {e : FVec Ideal S128x64 .bf16} {K E : Fin 128 → Fin 64 → ℝ} (hk : IsHead (φ := .bf16) k K) (he : IsHead e E) (a d : Fin 64) :
    (upd1 k e (ix2 a d) : EReal) = ((∑ c, K c a * E c d : ℝ) : EReal) := by
  rw [coe_sum]
  pointwise [upd1]
  refine Finset.sum_congr rfl fun c _ => ?_
  rw [hk, he, EReal.coe_mul]

/-- Four heads' rows from four heads. -/
structure AreHeads (k0 k1 k2 k3 : Vec Ideal S128x64 .bf16) (K : Fin 4 → Fin 128 → Fin 64 → ℝ) : Prop where
  h0 : IsHead (φ := .bf16) k0 (K 0)
  h1 : IsHead (φ := .bf16) k1 (K 1)
  h2 : IsHead (φ := .bf16) k2 (K 2)
  h3 : IsHead (φ := .bf16) k3 (K 3)

/-- The rows of one of four heads, cut out. -/
theorem IsQuad.cut {x : FVec Ideal S128x256 .bf16} {f : Fin 4 → Fin 128 → Fin 64 → ℝ} (hx : IsQuad x f) :
    IsHead (extractStridedSlice S128x64 ![0, 0] x slices_S128x256_o0_0_S128x64) (f 0)
      ∧ IsHead (extractStridedSlice S128x64 ![0, 64] x slices_S128x256_o0_64_S128x64) (f 1)
      ∧ IsHead (extractStridedSlice S128x64 ![0, 128] x slices_S128x256_o0_128_S128x64) (f 2)
      ∧ IsHead (extractStridedSlice S128x64 ![0, 192] x slices_S128x256_o0_192_S128x64) (f 3) := by
  refine ⟨fun r e => ?_, fun r e => ?_, fun r e => ?_, fun r e => ?_⟩
  all_goals
    rw [← hx]
    pointwise
    refine congrArg x (congrArg₂ ix2 rfl (Fin.ext ?_))
    simp [lane64]

/-- The masked products of four heads' queries and keys. -/
def seen (Q K : Fin 4 → Fin 128 → Fin 64 → ℝ) (h : Fin 4) (r c : Fin 128) : ℝ :=
  if c.val / 4 ≤ r.val / 4 then rate / 4 * ∑ e, Q h r e * K h c e else 0

theorem attn_at {q : FVec Ideal S128x256 .bf16} {k0 k1 k2 k3 : Vec Ideal S128x64 .bf16} {Q K : Fin 4 → Fin 128 → Fin 64 → ℝ}
    (hq : IsQuad q Q) (hk : AreHeads k0 k1 k2 k3 K) (r c : Fin 128) (h : Fin 4) :
    (attn q k0 k1 k2 k3 (ix2 r (lane128 h c)) : EReal) = ((seen Q K h r c : ℝ) : EReal) := by
  obtain ⟨q0, q1, q2, q3⟩ := hq.cut
  have a0 := attn1_at q0 hk.h0 r c
  have a1 := attn1_at q1 hk.h1 r c
  have a2 := attn1_at q2 hk.h2 r c
  have a3 := attn1_at q3 hk.h3 r c
  pointwise [attn]
  obtain ⟨h, hh⟩ := h
  dsimp only
  interval_cases h <;> split_ifs <;>
    first
    | omega
    | (refine Eq.trans (congrArg (attn1 _ _) (congrArg₂ ix2 rfl (Fin.ext (?_ : _ = c.val)))) (by first | exact a0 | exact a1 | exact a2 | exact a3)
       dsimp only; omega)

/-- The errors of a chunk of four heads. -/
def miss (W X : Fin 4 → Fin 128 → Fin 64 → ℝ) (M : Fin 4 → Fin 64 → Fin 64 → ℝ) (h : Fin 4) (r : Fin 128) (d : Fin 64) : ℝ :=
  W h r d - ∑ e, X h r e * M h d e

theorem errE_at {w x q : FVec Ideal S128x256 .bf16} {n : FVec Ideal S64x256 .f32} {W X Q : Fin 4 → Fin 128 → Fin 64 → ℝ} {M : Fin 4 → Fin 64 → Fin 64 → ℝ}
    (hw : IsQuad w W) (hx : IsQuad x X) (hq : IsQuad q Q) (hn : IsMem n M) : IsQuad (errE w x q n) (miss W X M) := by
  intro h r d
  have hr := readN_at hx hq hn 0 r h d
  have hw' := hw h r d
  pointwise [errE]
  unfold miss
  rw [EReal.coe_sub, ← hw']
  congr 1
  refine Eq.trans ?_ (hr.trans (congrArg _ (Finset.sum_congr rfl fun e _ => by rw [if_pos rfl])))
  exact congrArg (readN x q n) (congrArg₂ ix2 (Fin.ext (by dsimp only; omega)) rfl)

theorem beside_at {a b : Vec Ideal S128x128 .bf16} {f : Fin 4 → Fin 128 → Fin 64 → ℝ}
    (ha : IsRows (φ := .bf16) a (fun h => f ⟨h.val, by omega⟩)) (hb : IsRows (φ := .bf16) b (fun h => f ⟨2 + h.val, by omega⟩)) :
    IsQuad (φ := .bf16) (beside (F := Ideal) a b) f := by
  intro h r e
  pointwise [beside]
  obtain ⟨h, hh⟩ := h
  interval_cases h
  · rw [dif_pos (by dsimp only; omega)]
    exact ha 0 r e
  · rw [dif_pos (by dsimp only; omega)]
    exact ha 1 r e
  · rw [dif_neg (by dsimp only; omega)]
    exact (congrArg b (congrArg₂ ix2 rfl (Fin.ext (by dsimp only; omega)))).trans (hb 0 r e)
  · rw [dif_neg (by dsimp only; omega)]
    exact (congrArg b (congrArg₂ ix2 rfl (Fin.ext (by dsimp only; omega)))).trans (hb 1 r e)

theorem upd_at {x : FVec Ideal S128x256 .bf16} {k0 k1 k2 k3 : Vec Ideal S128x64 .bf16} {E K : Fin 4 → Fin 128 → Fin 64 → ℝ}
    (hx : IsQuad x E) (hk : AreHeads k0 k1 k2 k3 K) : IsMem (upd x k0 k1 k2 k3) (fun h d e => ∑ c, K h c e * E h c d) := by
  intro h d e
  obtain ⟨q0, q1, q2, q3⟩ := hx.cut
  have a0 := upd1_at hk.h0 q0 e d
  have a1 := upd1_at hk.h1 q1 e d
  have a2 := upd1_at hk.h2 q2 e d
  have a3 := upd1_at hk.h3 q3 e d
  pointwise [upd]
  obtain ⟨h, hh⟩ := h
  dsimp only
  interval_cases h <;> split_ifs <;>
    first
    | omega
    | (refine Eq.trans (congrArg (upd1 _ _) (congrArg₂ ix2 rfl (Fin.ext (?_ : _ = d.val)))) (by first | exact a0 | exact a1 | exact a2 | exact a3)
       dsimp only; omega)

/-- The memory after a chunk. -/
theorem chunkN_at {wa wb xa xb : Vec Ideal S128x128 .bf16} {q : Vec Ideal S128x256 .bf16} {n : Vec Ideal S1x64x256 .f32}
    {k0 k1 k2 k3 : Vec Ideal S128x64 .bf16} {W X Q K : Fin 4 → Fin 128 → Fin 64 → ℝ} {M : Fin 4 → Fin 64 → Fin 64 → ℝ}
    (hw : IsQuad (φ := .bf16) (beside wa wb) W) (hx : IsQuad (φ := .bf16) (beside xa xb) X) (hq : IsQuad (φ := .bf16) q Q)
    (hn : ∀ (h : Fin 4) (d e : Fin 64), (n (ix3 0 e (lane64 h d)) : EReal) = ((M h d e : ℝ) : EReal)) (hk : AreHeads k0 k1 k2 k3 K)
    (h : Fin 4) (d e : Fin 64) :
    (chunkN (F := Ideal) wa wb xa xb q n k0 k1 k2 k3 (ix3 0 e (lane64 h d)) : EReal)
      = ((M h d e + rate / 4 * ∑ c, K h c e * miss W X M h c d : ℝ) : EReal) := by
  have hm : IsMem (φ := .f32) (shapeCast S64x256 n shapeCasts_S1x64x256_S64x256) M := fun h d e => by
    pointwise
    exact hn h d e
  have hu := upd_at (errE_at hw hx hq hm) hk h d e
  pointwise [chunkN, betaS]
  rw [beta_val, hn, EReal.coe_add, EReal.coe_mul]
  congr 2

/-- The outputs of a chunk. -/
theorem chunkO_at {wa wb xa xb : Vec Ideal S128x128 .bf16} {q : Vec Ideal S128x256 .bf16} {n : Vec Ideal S1x64x256 .f32}
    {k0 k1 k2 k3 : Vec Ideal S128x64 .bf16} {W X Q K : Fin 4 → Fin 128 → Fin 64 → ℝ} {M : Fin 4 → Fin 64 → Fin 64 → ℝ}
    (hw : IsQuad (φ := .bf16) (beside wa wb) W) (hx : IsQuad (φ := .bf16) (beside xa xb) X) (hq : IsQuad (φ := .bf16) q Q)
    (hn : ∀ (h : Fin 4) (d e : Fin 64), (n (ix3 0 e (lane64 h d)) : EReal) = ((M h d e : ℝ) : EReal)) (hk : AreHeads k0 k1 k2 k3 K)
    (h : Fin 4) (d : Fin 64) (r : Fin 128) :
    (chunkO (F := Ideal) wa wb xa xb q n k0 k1 k2 k3 (ix2 r (lane64 h d)) : EReal)
      = ((∑ e, Q h r e * M h d e + ∑ c, seen Q K h r c * miss W X M h c d : ℝ) : EReal) := by
  have hm : IsMem (φ := .f32) (shapeCast S64x256 n shapeCasts_S1x64x256_S64x256) M := fun h d e => by
    pointwise
    exact hn h d e
  have hr := readN_at hx hq hm 1 r h d
  have he := errE_at hw hx hq hm
  have ha := fun c => attn_at hq hk r c h
  have hd := fun i c => diagE_at (n := errE (beside wa wb) (beside xa xb) q (shapeCast S64x256 n shapeCasts_S1x64x256_S64x256)) i h c d
  pointwise [chunkO]
  rw [EReal.coe_add]
  congr 1
  rw [sum_lane128, Finset.sum_eq_single h]
  · rw [coe_sum]
    refine Finset.sum_congr rfl fun c _ => ?_
    rw [hd, if_pos rfl, he, ha, EReal.coe_mul]
  · intro i _ hne
    refine Finset.sum_eq_zero fun c _ => ?_
    rw [hd, if_neg hne, mul_zero]
  · intro hh; exact absurd (Finset.mem_univ _) hh

end Cert.KernelIdeal.Whole

end
-- ==== Proof.Value.Solved.lean ====
/-
  The array that the second call leaves, over the extended reals.
-/
module

public import proofs.«01_k».proof.Proof.KernelIdeal.Solve
public import proofs.«01_k».proof.Proof.Value.Pair
public import Idealize.ShloMosaic.Lib.Pointwise
public import Idealize.ShloMosaic.Lib.Pipeline.ValueKit
public import Idealize.ShloMosaic.Lib.Pipeline.Covers

@[expose] public section

set_option maxRecDepth 16384

noncomputable section

namespace Cert.KernelIdeal.Whole

open Cert.KernelIdeal.Gen Idealize.ShloMosaic Cert.Delta
open Idealize.ShloMosaic.TcCoe

variable (V : (c : Dev nD) → (b : Ref sig .tc) → Buf (Elt Ideal) ((c : Thread nD τ).loc b))

theorem idx1 : ∀ t : Fin cfg1.N, win1_0.index t = ![(grid1.coords t 1).val, 8 + (grid1.coords t 0).val]
    ∧ win1_1.index t = ![(grid1.coords t 1).val, 16 + (grid1.coords t 0).val]
    ∧ win1_2.index t = ![8 * (grid1.coords t 0).val + (grid1.coords t 1).val, 0] := by
  decide +kernel

/-- The 128 rows of chunk `n` and the 128 columns from `128 * w` of the projected rows. -/
def part (a : FVec Ideal S16384x3072 .bf16) (n w : ℕ) : Vec Ideal S128x128 .bf16 := fun x =>
  a (ix2 ⟨(128 * n + (x 0).val) % 16384, Nat.mod_lt _ (by decide)⟩ ⟨(128 * w + (x 1).val) % 3072, Nat.mod_lt _ (by decide)⟩)

theorem ld_part0 (c : Dev nD) (t : Fin cfg1.N) (o : ℕ) (ho : o % 128 = 0) (inb : ∀ a, (![o, 0] : Fin 2 → ℕ) a + S128x128.size a ≤ S2048x128.size a) :
    View.ld (iblk1 (F := Ideal) V c 0 t) (Rect.unit (s := S2048x128) ![o, 0] S128x128.size inb)
      = part (V c main_v8) (16 * (grid1.coords t 1).val + o / 128) (8 + (grid1.coords t 0).val) := by
  have i0 := (idx1 t).1
  have b0 : (grid1.coords t 0).val < 8 := (grid1.coords t 0).isLt
  have b1 : (grid1.coords t 1).val < 8 := (grid1.coords t 1).isLt
  have ho' : o + 128 ≤ 2048 := inb 0
  funext x
  idx_vars x
  unfold part
  rw [View.ld_unit_apply_of _ _ _ _ _ (ix2 ⟨o + x0.val, by omega⟩ x1 : S2048x128.Idx) (by intro a; fin_cases a <;> simp)]
  blk_ext [iblk1, i0]

theorem ld_part1 (c : Dev nD) (t : Fin cfg1.N) (o : ℕ) (ho : o % 128 = 0) (inb : ∀ a, (![o, 0] : Fin 2 → ℕ) a + S128x128.size a ≤ S2048x128.size a) :
    View.ld (iblk1 (F := Ideal) V c 1 t) (Rect.unit (s := S2048x128) ![o, 0] S128x128.size inb)
      = part (V c main_v8) (16 * (grid1.coords t 1).val + o / 128) (16 + (grid1.coords t 0).val) := by
  have i0 := (idx1 t).2.1
  have b0 : (grid1.coords t 0).val < 8 := (grid1.coords t 0).isLt
  have b1 : (grid1.coords t 1).val < 8 := (grid1.coords t 1).isLt
  have ho' : o + 128 ≤ 2048 := inb 0
  funext x
  idx_vars x
  unfold part
  rw [View.ld_unit_apply_of _ _ _ _ _ (ix2 ⟨o + x0.val, by omega⟩ x1 : S2048x128.Idx) (by intro a; fin_cases a <;> simp)]
  blk_ext [iblk1, i0]

/-- What the second call's array holds, entry by entry. -/
def solvedArr (a : FVec Ideal S16384x3072 .bf16) : FVec Ideal S131072x256 .bf16 := fun i =>
  chunkWX (F := Ideal) (part a ((i 0).val / 128 % 128) (8 + (i 0).val / 16384)) (part a ((i 0).val / 128 % 128) (16 + (i 0).val / 16384))
    (ix2 ⟨(i 0).val % 128, Nat.mod_lt _ (by decide)⟩ (i 1))

theorem piece1 (c : Dev nD) (t : Fin cfg1.N) (o : ℕ) (ho : o % 128 = 0) (inb : ∀ a, (![o, 0] : Fin 2 → ℕ) a + S128x128.size a ≤ S2048x128.size a)
    (y : S2048x256.Idx) (x : S128x256.Idx) (h0 : (y 0).val = o + (x 0).val) (h1 : (y 1).val = (x 1).val) :
    chunkWX (F := Ideal) (View.ld (iblk1 (F := Ideal) V c 0 t) (Rect.unit (s := S2048x128) ![o, 0] S128x128.size inb))
        (View.ld (iblk1 (F := Ideal) V c 1 t) (Rect.unit (s := S2048x128) ![o, 0] S128x128.size inb)) x
      = solvedArr (V c main_v8) (((cfg1.win 2).blk t).view.emb y) := by
  have i2 := (idx1 t).2.2
  have b0 : (grid1.coords t 0).val < 8 := (grid1.coords t 0).isLt
  have b1 : (grid1.coords t 1).val < 8 := (grid1.coords t 1).isLt
  have ho' : o + 128 ≤ 2048 := inb 0
  have hx : (x 0).val < 128 := (x 0).isLt
  have e0 : ((((cfg1.win 2).blk t).view.emb y) 0 : ℕ) = (8 * (grid1.coords t 0).val + (grid1.coords t 1).val) * 2048 + (y 0).val := by
    blk_simp [i2]
  have e1 : ((((cfg1.win 2).blk t).view.emb y) 1 : ℕ) = (y 1).val := by
    blk_simp [i2]
  rw [ld_part0 V c t o ho inb, ld_part1 V c t o ho inb]
  unfold solvedArr
  have n : ((((cfg1.win 2).blk t).view.emb y) 0 : ℕ) / 128 % 128 = 16 * (grid1.coords t 1).val + o / 128 := by rw [e0, h0]; omega
  have p : ((((cfg1.win 2).blk t).view.emb y) 0 : ℕ) / 16384 = (grid1.coords t 0).val := by rw [e0, h0]; omega
  rw [n, p]
  refine congrArg _ ((eq_ix2 x).trans (congrArg₂ ix2 (Fin.ext ?_) (Fin.ext ?_)))
  · show (x 0).val = _ % 128
    rw [e0, h0]; omega
  · exact h1.symm.trans e1.symm

/-- The second call's array. -/
theorem arr1 (c : Dev nD) (a : FVec Ideal S16384x3072 .bf16) (ha : V c main_v8 = a) :
    (dat1 (F := Ideal) V c).arrAt 2 cfg1.N = solvedArr a := by
  subst ha
  refine (dat1 V c).arrAt_eq_of_covers 2 _ (by decide +kernel) fun t hf y => ?_
  blk_simp
  rw [after1_2]
  unfold out1_2
  canon_tiles x h
  all_goals exact piece1 V c t _ (by decide) _ y x (by omega) (by omega)

/-! ## The array as the heads' inverses times their values and keys

`R 0 h`, `R 1 h` and `R 2 h` are the queries', the keys' and the values' rows of head `h`. -/

variable (R : ℕ → ℕ → Rows)

/-- An array holds the queries, the keys and the values of all heads, the four batches of a step one below the other. -/
def Projected (a : FVec Ideal S16384x3072 .bf16) : Prop :=
  ∀ (y : S16384x3072.Idx) (w hd n : ℕ) (r : Fin 128) (e : Fin 64), w < 3 → hd < 16 → n < 128 →
    (y 0).val = 128 * n + r.val → (y 1).val = 1024 * w + 64 * hd + e.val → (a y : EReal) = ((rowsAt (R w hd) (32 * n) r e : ℝ) : EReal)

/-- The inverse of a chunk's system times the chunk's values (`u = 0`) or keys (`u = 1`). -/
def fac (u hd n : ℕ) (r : Fin 128) (e : Fin 64) : ℝ :=
  ∑ c, solved (gramAt rate (R 1 hd) (32 * n)) r c * (if u = 0 then rowsAt (R 2 hd) (32 * n) c e else rowsAt (R 1 hd) (32 * n) c e)

/-- An array holds these products of all heads and chunks: a pair of heads below the other, the chunks of a pair in order. -/
def Solved (a : FVec Ideal S131072x256 .bf16) : Prop :=
  ∀ (y : S131072x256.Idx) (u hd n : ℕ) (r : Fin 128) (e : Fin 64), u < 2 → hd < 16 → n < 128 →
    (y 0).val = 16384 * (hd / 2) + 128 * n + r.val → (y 1).val = 128 * u + 64 * (hd % 2) + e.val → (a y : EReal) = ((fac R u hd n r e : ℝ) : EReal)

theorem part_rows {R : ℕ → ℕ → Rows} {a : FVec Ideal S16384x3072 .bf16} (ha : Projected R a) (w p n : ℕ) (hw : w < 3) (hp : p < 8) (hn : n < 128) :
    IsRows (φ := .bf16) (part a n (8 * w + p)) (fun h => rowsAt (R w (2 * p + h.val)) (32 * n)) := by
  intro h r e
  refine ha _ w (2 * p + h.val) n r e hw (by omega) hn ?_ ?_
  · show (128 * n + r.val) % 16384 = _
    omega
  · show (128 * (8 * w + p) + (64 * h.val + e.val)) % 3072 = _
    omega

theorem solved_of {R : ℕ → ℕ → Rows} {a : FVec Ideal S16384x3072 .bf16} (ha : Projected R a) : Solved R (solvedArr a) := by
  intro y u hd n r e hu hh hn h0 h1
  have e1 : (y 0).val / 128 % 128 = n := by omega
  have e2 : (y 0).val / 16384 = hd / 2 := by omega
  have hk := part_rows ha 1 (hd / 2) n (by decide) (by omega) hn
  have hv := part_rows ha 2 (hd / 2) n (by decide) (by omega) hn
  have hc := chunk_at hk hv r ⟨u, hu⟩ ⟨hd % 2, by omega⟩ e
  unfold solvedArr
  rw [e1, e2]
  refine Eq.trans (congrArg _ (congrArg₂ ix2 (Fin.ext ?_) (Fin.ext ?_))) (hc.trans ?_)
  · show (y 0).val % 128 = r.val
    omega
  · exact h1
  · have e3 : 2 * (hd / 2) + hd % 2 = hd := by omega
    simp only [e3]
    unfold fac
    refine congrArg _ (Finset.sum_congr rfl fun c _ => ?_)
    have e4 : lower (fun h : Fin 2 => rowsAt (R 1 (2 * (hd / 2) + h.val)) (32 * n)) ⟨hd % 2, by omega⟩ = gramAt rate (R 1 hd) (32 * n) := by
      show gramAt rate (R 1 (2 * (hd / 2) + hd % 2)) (32 * n) = _
      rw [e3]
    rw [e4]
    obtain rfl | rfl : u = 0 ∨ u = 1 := by omega
    · rfl
    · rfl

end Cert.KernelIdeal.Whole

end
-- ==== Proof.Value.Swept.lean ====
/-
  The array that the third call leaves, over the extended reals: the answers of the delta rule's scan.
-/
module

public import proofs.«01_k».proof.Proof.KernelIdeal.Sweep
public import proofs.«01_k».proof.Proof.Value.Quad
public import proofs.«01_k».proof.Proof.Value.Solved
public import Idealize.ShloMosaic.Lib.Pointwise
public import Idealize.ShloMosaic.Lib.Pipeline.ValueKit
public import Idealize.ShloMosaic.Lib.Pipeline.Covers

@[expose] public section

set_option maxRecDepth 16384

noncomputable section

namespace Cert.KernelIdeal.Whole

open Cert.KernelIdeal.Gen Idealize.ShloMosaic Cert.Delta
open Idealize.ShloMosaic.TcCoe

variable (V : (c : Dev nD) → (b : Ref sig .tc) → Buf (Elt Ideal) ((c : Thread nD τ).loc b))

theorem idx2 : ∀ t : Fin cfg2.N,
    win2_0.index t = ![(4 * (t.val / 16) + 0) * 16 + t.val % 16, 0] ∧ win2_1.index t = ![(4 * (t.val / 16) + 1) * 16 + t.val % 16, 0]
    ∧ win2_2.index t = ![(4 * (t.val / 16) + 2) * 16 + t.val % 16, 0] ∧ win2_3.index t = ![(4 * (t.val / 16) + 3) * 16 + t.val % 16, 0]
    ∧ win2_4.index t = ![t.val % 16, t.val / 16] ∧ win2_5.index t = ![t.val % 16, 2 + t.val / 16]
    ∧ win2_6.index t = ![t.val % 16, t.val / 16] := by
  decide +kernel

/-- The chunk of step `j` of grid point `t`. -/
abbrev chunkNo (t j : ℕ) : ℕ := 8 * (t % 16) + j / 2
/-- The head `h` of the four of step `j` of grid point `t`. -/
abbrev headNo (t j h : ℕ) : ℕ := 8 * (t / 16) + 4 * (j % 2) + h

variable {V} {R : ℕ → ℕ → Rows} {c : Dev nD}

/-- What the windows hold at a grid point. -/
structure Reads (R : ℕ → ℕ → Rows) (X : SweepIn Ideal) (t : ℕ) : Prop where
  /-- The second call's array, the pairs of the even steps -/
  a : ∀ (y : S1024x256.Idx) (j u h : ℕ) (r : Fin 128) (e : Fin 64), j < 16 → u < 2 → h < 2 → (y 0).val = 128 * (j / 2) + r.val →
    (y 1).val = 128 * u + 64 * h + e.val → (X.a j y : EReal) = ((fac R u (headNo t j h) (chunkNo t j) r e : ℝ) : EReal)
  b : ∀ (y : S1024x256.Idx) (j u h : ℕ) (r : Fin 128) (e : Fin 64), j < 16 → u < 2 → h < 2 → (y 0).val = 128 * (j / 2) + r.val →
    (y 1).val = 128 * u + 64 * h + e.val → (X.b j y : EReal) = ((fac R u (headNo t j (2 + h)) (chunkNo t j) r e : ℝ) : EReal)
  q : ∀ (y : S1024x512.Idx) (j h : ℕ) (r : Fin 128) (e : Fin 64), j < 16 → h < 4 → (y 0).val = 128 * (j / 2) + r.val →
    (y 1).val = 256 * (j % 2) + 64 * h + e.val → (X.x4 y : EReal) = ((rowsAt (R 0 (headNo t j h)) (32 * chunkNo t j) r e : ℝ) : EReal)
  k : ∀ (y : S1024x512.Idx) (j h : ℕ) (r : Fin 128) (e : Fin 64), j < 16 → h < 4 → (y 0).val = 128 * (j / 2) + r.val →
    (y 1).val = 256 * (j % 2) + 64 * h + e.val → (X.x5 y : EReal) = ((rowsAt (R 1 (headNo t j h)) (32 * chunkNo t j) r e : ℝ) : EReal)

/-- The windows hold blocks of the arrays. -/
theorem reads (t : Fin cfg2.N) (a8 : FVec Ideal S16384x3072 .bf16) (a9 : FVec Ideal S131072x256 .bf16) (h8 : V c main_v8 = a8) (h9 : V c main_v9 = a9)
    (hP : Projected R a8) (hS : Solved R a9) : Reads R (sweepIn V c t) t.val := by
  have ht : t.val < 32 := t.isLt
  obtain ⟨i0, i1, i2, i3, i4, i5, -⟩ := idx2 t
  subst h8 h9
  refine ⟨?_, ?_, ?_, ?_⟩
  · intro y j u h r e hj hu hh h0 h1
    unfold SweepIn.a
    split_ifs with hg
    · refine hS (((cfg2.win 0).blk t).view.emb y) u _ _ r e hu (by unfold headNo; omega) (by unfold chunkNo; omega) ?_ ?_ <;>
        · blk_simp [i0]
          unfold grpOf at hg
          simp only [headNo, chunkNo]
          omega
    · refine hS (((cfg2.win 2).blk t).view.emb y) u _ _ r e hu (by unfold headNo; omega) (by unfold chunkNo; omega) ?_ ?_ <;>
        · blk_simp [i2]
          unfold grpOf at hg
          simp only [headNo, chunkNo]
          omega
  · intro y j u h r e hj hu hh h0 h1
    unfold SweepIn.b
    split_ifs with hg
    · refine hS (((cfg2.win 1).blk t).view.emb y) u _ _ r e hu (by unfold headNo; omega) (by unfold chunkNo; omega) ?_ ?_ <;>
        · blk_simp [i1]
          unfold grpOf at hg
          simp only [headNo, chunkNo]
          omega
    · refine hS (((cfg2.win 3).blk t).view.emb y) u _ _ r e hu (by unfold headNo; omega) (by unfold chunkNo; omega) ?_ ?_ <;>
        · blk_simp [i3]
          unfold grpOf at hg
          simp only [headNo, chunkNo]
          omega
  · intro y j h r e hj hh h0 h1
    refine hP (((cfg2.win 4).blk t).view.emb y) 0 _ _ r e (by decide) (by unfold headNo; omega) (by unfold chunkNo; omega) ?_ ?_ <;>
      · blk_simp [i4]
        simp only [headNo, chunkNo]
        omega
  · intro y j h r e hj hh h0 h1
    refine hP (((cfg2.win 5).blk t).view.emb y) 1 _ _ r e (by decide) (by unfold headNo; omega) (by unfold chunkNo; omega) ?_ ?_ <;>
      · blk_simp [i5]
        simp only [headNo, chunkNo]
        omega

/-! ## One step -/

/-- The memory after `j` steps of grid point `t`: the heads of group `g` have seen the chunks before. -/
def Holds (R : ℕ → ℕ → Rows) (N : Vec Ideal S2x64x256 .f32) (t j : ℕ) : Prop :=
  ∀ (g : Fin 2) (h : Fin 4) (d e : Fin 64), (N (ix3 g e (lane64 h d)) : EReal)
    = ((mem rate (R 1 (headNo t g.val h.val)) (R 2 (headNo t g.val h.val)) (32 * (8 * (t % 16) + (j + 1 - g.val) / 2)) d e : ℝ) : EReal)

section Step

variable {X : SweepIn Ideal} {N : Vec Ideal S2x64x256 .f32} {t j : ℕ}

/-- The loads of a step of the second call's array. -/
theorem quad_of (hX : Reads R X t) (hj : j < 16) (u : ℕ) (hu : u < 2) (hc : 128 * u ≤ 128) :
    IsQuad (φ := .bf16) (beside (F := Ideal) (View.ld (X.a j) (rW j (128 * u) hc)) (View.ld (X.b j) (rW j (128 * u) hc)))
      (fun h => fac R u (headNo t j h.val) (chunkNo t j)) := by
  have ho : rowOf j = 128 * (j / 2) := by unfold rowOf; omega
  refine beside_at (fun h r e => ?_) (fun h r e => ?_)
  · refine (congrFun rfl _).trans (hX.a _ j u h.val r e hj hu (by omega) ?_ ?_)
    · show rowOf j + 1 * r.val = _
      omega
    · show 128 * u + 1 * (64 * h.val + e.val) = _
      omega
  · refine (congrFun rfl _).trans (hX.b _ j u h.val r e hj hu (by omega) ?_ ?_)
    · show rowOf j + 1 * r.val = _
      omega
    · show 128 * u + 1 * (64 * h.val + e.val) = _
      omega

theorem queries_of (hX : Reads R X t) (hj : j < 16) :
    IsQuad (φ := .bf16) (View.ld X.x4 (rQ j)) (fun h => rowsAt (R 0 (headNo t j h.val)) (32 * chunkNo t j)) := by
  have ho : rowOf j = 128 * (j / 2) := by unfold rowOf; omega
  intro h r e
  refine hX.q _ j h.val r e hj (by omega) ?_ ?_
  · show rowOf j + 1 * r.val = _
    omega
  · show 256 * (j % 2) + 1 * (64 * h.val + e.val) = _
    omega

theorem keys_at (hX : Reads R X t) (hj : j < 16) (h : ℕ) (hh : h ≤ 3) :
    IsHead (φ := .bf16) (View.ld X.x5 (rK j h hh)) (rowsAt (R 1 (headNo t j h)) (32 * chunkNo t j)) := by
  have ho : rowOf j = 128 * (j / 2) := by unfold rowOf; omega
  intro r e
  refine hX.k _ j h r e hj (by omega) ?_ ?_
  · show rowOf j + 1 * r.val = _
    omega
  · show 256 * (j % 2) + 64 * h + 1 * e.val = _
    omega

theorem keys_of (hX : Reads R X t) (hj : j < 16) :
    AreHeads (View.ld X.x5 (rK j 0 (by decide))) (View.ld X.x5 (rK j 1 (by decide))) (View.ld X.x5 (rK j 2 (by decide))) (View.ld X.x5 (rK j 3 (by decide)))
      (fun h => rowsAt (R 1 (headNo t j h.val)) (32 * chunkNo t j)) :=
  ⟨keys_at hX hj 0 _, keys_at hX hj 1 _, keys_at hX hj 2 _, keys_at hX hj 3 _⟩

theorem memory_of (hN : Holds R N t j) (hj : j < 16) (h : Fin 4) (d e : Fin 64) :
    (View.ld N (rN j) (ix3 0 e (lane64 h d)) : EReal)
      = ((mem rate (R 1 (headNo t j h.val)) (R 2 (headNo t j h.val)) (32 * chunkNo t j) d e : ℝ) : EReal) := by
  rw [View.ld_unit_apply_of _ _ _ _ _ (ix3 ⟨j % 2, Nat.mod_lt _ (by decide)⟩ e (lane64 h d) : S2x64x256.Idx) (by intro a; fin_cases a <;> simp [grpOf]), hN]
  have e1 : headNo t (j % 2) h.val = headNo t j h.val := by unfold headNo; omega
  have e2 : 8 * (t % 16) + (j + 1 - j % 2) / 2 = chunkNo t j := by unfold chunkNo; omega
  dsimp only
  rw [e1, e2]

/-- The errors are the delta rule's. -/
theorem miss_eq (hd n : ℕ) (W X : Fin 4 → Fin 128 → Fin 64 → ℝ) (M : Fin 4 → Fin 64 → Fin 64 → ℝ) (h : Fin 4)
    (hW : W h = fac R 0 hd n) (hX : X h = fac R 1 hd n) (hM : M h = mem rate (R 1 hd) (R 2 hd) (32 * n)) (r : Fin 128) (d : Fin 64) :
    miss W X M h r d = errAt rate (R 1 hd) (R 2 hd) (32 * n) r d := by
  rw [err_solved]
  unfold miss
  rw [hW, hX, hM]
  rfl

/-- The memory of a step's heads after it. -/
theorem stepN_at (hX : Reads R X t) (hN : Holds R N t j) (hj : j < 16) (h : Fin 4) (d e : Fin 64) :
    (stepN (X.a j) (X.b j) X.x4 X.x5 N j (ix3 0 e (lane64 h d)) : EReal)
      = ((mem rate (R 1 (headNo t j h.val)) (R 2 (headNo t j h.val)) (32 * (chunkNo t j + 1)) d e : ℝ) : EReal) := by
  refine (chunkN_at (quad_of hX hj 0 (by decide) (by decide)) (quad_of hX hj 1 (by decide) (by decide)) (queries_of hX hj)
    (memory_of hN hj) (keys_of hX hj) h d e).trans (congrArg _ ?_)
  rw [show 32 * (chunkNo t j + 1) = 32 * chunkNo t j + 32 by omega, mem_chunk]
  refine congrArg₂ (· + ·) rfl (congrArg₂ (· * ·) rfl (Finset.sum_congr rfl fun r _ => congrArg₂ (· * ·) rfl ?_))
  exact miss_eq _ _ _ _ _ h rfl rfl rfl r d

/-- A step's answers. -/
theorem stepO_at (hX : Reads R X t) (hN : Holds R N t j) (hj : j < 16) (h : Fin 4) (d : Fin 64) (r : Fin 128) :
    (stepO (X.a j) (X.b j) X.x4 X.x5 N j (ix2 r (lane64 h d)) : EReal)
      = ((ans rate (R 1 (headNo t j h.val)) (R 2 (headNo t j h.val)) (R 0 (headNo t j h.val)) (32 * chunkNo t j + r.val / 4) (bat r) d : ℝ) : EReal) := by
  refine (chunkO_at (quad_of hX hj 0 (by decide) (by decide)) (quad_of hX hj 1 (by decide) (by decide)) (queries_of hX hj)
    (memory_of hN hj) (keys_of hX hj) h d r).trans (congrArg _ ?_)
  rw [ans_chunk]
  refine congrArg₂ (· + ·) rfl (Finset.sum_congr rfl fun c _ => congrArg₂ (· * ·) rfl ?_)
  exact miss_eq _ _ _ _ _ h rfl rfl rfl c d

/-- The memory one step on. -/
theorem holds_step (hX : Reads R X t) (hN : Holds R N t j) (hj : j < 16) :
    Holds R (VecWindow.put N ![grpOf j, 0, 0] S1x64x256.size (stepN (X.a j) (X.b j) X.x4 X.x5 N j)) t (j + 1) := by
  intro g h d e
  have hg : g.val < 2 := g.isLt
  unfold VecWindow.put
  by_cases hc : g.val = j % 2
  · rw [dif_pos]
    · refine Eq.trans (congrArg _ (?_ : _ = (ix3 0 e (lane64 h d) : S1x64x256.Idx))) ((stepN_at hX hN hj h d e).trans ?_)
      · funext a
        refine Fin.ext ?_
        fin_cases a
        · show g.val - grpOf j = 0
          unfold grpOf; omega
        · rfl
        · rfl
      · have e1 : headNo t j h.val = headNo t g.val h.val := by unfold headNo; omega
        have e2 : chunkNo t j + 1 = 8 * (t % 16) + (j + 1 + 1 - g.val) / 2 := by unfold chunkNo; omega
        rw [e1, e2]
    · intro a
      fin_cases a
      · show grpOf j ≤ g.val ∧ g.val < grpOf j + 1
        unfold grpOf; omega
      · exact ⟨Nat.zero_le _, by show e.val < 0 + 64; omega⟩
      · exact ⟨Nat.zero_le _, by show (lane64 h d).val < 0 + 256; omega⟩
  · rw [dif_neg]
    · have e2 : (j + 1 + 1 - g.val) / 2 = (j + 1 - g.val) / 2 := by omega
      rw [e2]
      exact hN g h d e
    · intro ha
      have a0 : grpOf j ≤ g.val ∧ g.val < grpOf j + 1 := ha 0
      unfold grpOf at a0
      omega

theorem holds_after (hX : Reads R X t) (hN : Holds R N t 0) : ∀ j : ℕ, j ≤ 16 → Holds R (memAfter X N j) t j
  | 0, _ => hN
  | j + 1, h => holds_step hX (holds_after hX hN j (by omega)) (by omega)

end Step

/-! ## The grid -/

theorem holds_zero (t : ℕ) (ht : t % 16 = 0) : Holds R (k2_pay2 (F := Ideal)) t 0 := by
  intro g h d e
  have e1 : 32 * (8 * (t % 16) + (0 + 1 - g.val) / 2) = 0 := by omega
  rw [e1]
  pointwise [k2_pay2]
  rfl

/-- The memory as a point's steps find it. -/
theorem holds_start (hX : ∀ t : Fin cfg2.N, Reads R (sweepIn V c t) t.val) : ∀ (n : ℕ) (h : n < cfg2.N),
    Holds R (startMem (grid2.coords ⟨n, h⟩) (memBefore V c n (Nat.le_of_lt h))) n 0
  | 0, h => by
    unfold startMem
    rw [if_pos ((hcond2_0 ⟨0, h⟩).mpr rfl)]
    exact holds_zero 0 rfl
  | n + 1, h => by
    have hN : n + 1 < 32 := h
    unfold startMem
    by_cases hc : resetC (grid2.coords ⟨n + 1, h⟩)
    · rw [if_pos hc]
      exact holds_zero _ ((hcond2_0 ⟨n + 1, h⟩).mp hc)
    · rw [if_neg hc]
      have hm : (n + 1) % 16 ≠ 0 := fun e => hc ((hcond2_0 ⟨n + 1, h⟩).mpr e)
      have hp := holds_after (hX ⟨n, by omega⟩) (holds_start hX n (Nat.lt_of_succ_lt h)) 16 (le_refl _)
      rw [← memAt_eq V c ⟨n, Nat.lt_of_succ_lt h⟩] at hp
      intro g x d e
      refine (hp g x d e).trans ?_
      have e1 : headNo n g.val x.val = headNo (n + 1) g.val x.val := by unfold headNo; omega
      have e2 : 8 * (n % 16) + (16 + 1 - g.val) / 2 = 8 * ((n + 1) % 16) + (0 + 1 - g.val) / 2 := by omega
      dsimp only
      rw [e1, e2]

/-- The answers of all heads as an array. -/
def answers (R : ℕ → ℕ → Rows) : FVec Ideal S16384x1024 .bf16 := fun i =>
  ((ans rate (R 1 ((i 1).val / 64)) (R 2 ((i 1).val / 64)) (R 0 ((i 1).val / 64)) ((i 0).val / 4) ⟨(i 0).val % 4, Nat.mod_lt _ (by decide)⟩
    ⟨(i 1).val % 64, Nat.mod_lt _ (by decide)⟩ : ℝ) : EReal)

/-- The third call's array. -/
theorem arr2 (a8 : FVec Ideal S16384x3072 .bf16) (a9 : FVec Ideal S131072x256 .bf16) (h8 : V c main_v8 = a8) (h9 : V c main_v9 = a9)
    (hP : Projected R a8) (hS : Solved R a9) : (dat2 (F := Ideal) V c).arrAt 6 cfg2.N = answers R := by
  have hX := fun t => reads t a8 a9 h8 h9 hP hS
  refine (dat2 V c).arrAt_eq_of_covers 6 _ (by decide +kernel) fun t hf y => ?_
  have i6 := (idx2 t).2.2.2.2.2.2
  have ht : t.val < 32 := t.isLt
  have b0 : (y 0).val < 1024 := (y 0).isLt
  have b1 : (y 1).val < 512 := (y 1).isLt
  have e0 : ((((cfg2.win 6).blk t).view.emb y) 0 : ℕ) = t.val % 16 * 1024 + (y 0).val := by
    blk_simp [i6]
  have e1 : ((((cfg2.win 6).blk t).view.emb y) 1 : ℕ) = t.val / 16 * 512 + (y 1).val := by
    blk_simp [i6]
  have hst : stepOf y < 16 := by unfold stepOf; omega
  have ho := stepO_at (hX t) (holds_after (hX t) (holds_start hX t.val t.isLt) (stepOf y) (by omega)) hst
    ⟨(y 1).val % 256 / 64, by omega⟩ ⟨(y 1).val % 64, by omega⟩ ⟨(y 0).val % 128, by omega⟩
  refine (congrFun (after2_6 V c t) y).trans ((Eq.trans ?_ ho).trans ?_)
  · unfold sweepOut
    refine congrArg _ (funext fun a => Fin.ext ?_)
    fin_cases a
    · rfl
    · show (y 1).val % 256 = 64 * ((y 1).val % 256 / 64) + (y 1).val % 64
      omega
  · refine congrArg _ ?_
    dsimp only
    have f1 : headNo t.val (stepOf y) ((y 1).val % 256 / 64) = (t.val / 16 * 512 + (y 1).val) / 64 := by unfold headNo stepOf; omega
    have f2 : 32 * chunkNo t.val (stepOf y) + (y 0).val % 128 / 4 = (t.val % 16 * 1024 + (y 0).val) / 4 := by unfold chunkNo stepOf; omega
    have f3 : bat ⟨(y 0).val % 128, by omega⟩ = ⟨(t.val % 16 * 1024 + (y 0).val) % 4, Nat.mod_lt _ (by decide)⟩ :=
      Fin.ext (show (y 0).val % 128 % 4 = (t.val % 16 * 1024 + (y 0).val) % 4 by omega)
    have f4 : (⟨(y 1).val % 64, by omega⟩ : Fin 64) = ⟨(t.val / 16 * 512 + (y 1).val) % 64, Nat.mod_lt _ (by decide)⟩ :=
      Fin.ext (show (y 1).val % 64 = (t.val / 16 * 512 + (y 1).val) % 64 by omega)
    rw [f1, f2, f3, f4]
    simp only [e0, e1]

end Cert.KernelIdeal.Whole

end
-- ==== Proof.Value.Hosts.lean ====
/-
  The kernel's host operations at an index, over the extended reals, and the arrays from call to call: the projected
  rows, the solved systems, the answers and the result.
-/
module

public import proofs.«01_k».proof.Proof.KernelIdeal.Whole
public import proofs.«01_k».proof.Proof.Value.Regions
public import proofs.«01_k».proof.Proof.Value.Swept
public import Idealize.ShloMosaic.Lib.Tactic

@[expose] public section

set_option maxRecDepth 16384

noncomputable section

namespace Cert.KernelIdeal.Whole

open Cert.KernelIdeal.Gen Idealize.ShloMosaic Cert.Delta
open Idealize.ShloMosaic.TcCoe Idealize.ShloMosaic.Tactic

/-- The input with the step first, flattened to rows. -/
def rowsX {F : FTy → Type} [FloatOps F] (x : FVec F S4x4096x1024 .f32) : FVec F S16384x1024 .bf16 :=
  truncf .bf16 (shapeCast S16384x1024 (transpose S4096x4x1024 [1, 0, 2] x transposes_S4x4096x1024_S4096x4x1024_1_0_2) shapeCasts_S4096x4x1024_S16384x1024) bitsLt_bf16_f32

/-- The three weights, transposed, side by side. -/
def weights {F : FTy → Type} [FloatOps F] (wq wk wv : FVec F S1024x1024 .f32) : FVec F S1024x3072 .bf16 :=
  truncf .bf16 (concatenate S1024x3072 1
    [⟨S1024x1024, (transpose S1024x1024 [1, 0] wq transposes_S1024x1024_S1024x1024_1_0 : FVec F S1024x1024 .f32)⟩,
     ⟨S1024x1024, (transpose S1024x1024 [1, 0] wk transposes_S1024x1024_S1024x1024_1_0 : FVec F S1024x1024 .f32)⟩,
     ⟨S1024x1024, (transpose S1024x1024 [1, 0] wv transposes_S1024x1024_S1024x1024_1_0 : FVec F S1024x1024 .f32)⟩]
    concatenates_S1024x1024_S1024x1024_S1024x1024_S1024x3072_d1) bitsLt_bf16_f32

/-- The last weight, transposed. -/
def weightO {F : FTy → Type} [FloatOps F] (wo : FVec F S1024x1024 .f32) : FVec F S1024x1024 .bf16 :=
  truncf .bf16 (transpose S1024x1024 [1, 0] wo transposes_S1024x1024_S1024x1024_1_0) bitsLt_bf16_f32

/-- The result from the last call's rows. -/
def resultOf {F : FTy → Type} [FloatOps F] (y : FVec F S16384x1024 .f32) : FVec F S4x4096x1024 .f32 :=
  transpose S4x4096x1024 [1, 0, 2] (shapeCast S4096x4x1024 y shapeCasts_S16384x1024_S4096x4x1024) transposes_S4096x4x1024_S4x4096x1024_1_0_2

theorem rowsX_at (x : FVec Ideal S4x4096x1024 .f32) (r : Fin 16384) (i : Fin 1024) :
    (rowsX x (ix2 r i) : EReal) = x (ix3 ⟨r.val % 4, Nat.mod_lt _ (by decide)⟩ ⟨r.val / 4, by omega⟩ i) := by
  pointwise [rowsX]

theorem weights_at (w : Fin 3 → FVec Ideal S1024x1024 .f32) (i : Fin 1024) (j : Fin 3072) :
    (weights (w 0) (w 1) (w 2) (ix2 i j) : EReal) = w ⟨j.val / 1024, by omega⟩ (ix2 ⟨j.val % 1024, Nat.mod_lt _ (by decide)⟩ i) := by
  pointwise [weights]
  by_cases h1 : j.val < 1024
  · refine (dif_pos h1).trans ?_
    have e1 : (⟨j.val / 1024, by omega⟩ : Fin 3) = 0 := Fin.ext (show j.val / 1024 = 0 by omega)
    have e2 : (⟨j.val, by omega⟩ : Fin 1024) = ⟨j.val % 1024, Nat.mod_lt _ (by decide)⟩ := Fin.ext (show j.val = j.val % 1024 by omega)
    rw [e1, ← e2]
  by_cases h2 : j.val - 1024 < 1024
  · refine (dif_neg h1).trans ((dif_pos h2).trans ?_)
    have e1 : (⟨j.val / 1024, by omega⟩ : Fin 3) = 1 := Fin.ext (show j.val / 1024 = 1 by omega)
    have e2 : (⟨j.val - 1024, by omega⟩ : Fin 1024) = ⟨j.val % 1024, Nat.mod_lt _ (by decide)⟩ := Fin.ext (show j.val - 1024 = j.val % 1024 by omega)
    rw [e1, ← e2]
  · refine (dif_neg h1).trans ((dif_neg h2).trans ?_)
    have e1 : (⟨j.val / 1024, by omega⟩ : Fin 3) = 2 := Fin.ext (show j.val / 1024 = 2 by omega)
    have e2 : (⟨j.val - 1024 - 1024, by omega⟩ : Fin 1024) = ⟨j.val % 1024, Nat.mod_lt _ (by decide)⟩ := Fin.ext (show j.val - 1024 - 1024 = j.val % 1024 by omega)
    rw [e1, ← e2]

theorem weightO_at (w : FVec Ideal S1024x1024 .f32) (i j : Fin 1024) : (weightO w (ix2 i j) : EReal) = w (ix2 j i) := by
  pointwise [weightO]

theorem resultOf_at (y : FVec Ideal S16384x1024 .f32) (b : Fin 4) (s : Fin 4096) (j : Fin 1024) :
    resultOf y (ix3 b s j) = y (ix2 ⟨4 * s.val + b.val, by omega⟩ j) := by
  pointwise [resultOf]
  exact congrArg y (congrArg₂ ix2 (Fin.ext (show s.val * 4 + b.val = 4 * s.val + b.val by omega)) rfl)

section Stretches

variable {F : FTy → Type} [FloatOps F] [Named F]

theorem host0_x (V : Valuation τ sig (Elt F)) : StableHlo.after hostOps0 V (Proc.devRef .tc main_v2) = rowsX (V (Proc.devRef .tc main_arg0)) := by
  after_results
  rfl
theorem host0_w (V : Valuation τ sig (Elt F)) : StableHlo.after hostOps0 V (Proc.devRef .tc main_v7)
    = weights (V (Proc.devRef .tc main_arg1)) (V (Proc.devRef .tc main_arg2)) (V (Proc.devRef .tc main_arg3)) := by
  after_results
  rfl
theorem host3_w (V : Valuation τ sig (Elt F)) : StableHlo.after hostOps3 V (Proc.devRef .tc main_v12) = weightO (V (Proc.devRef .tc main_arg4)) := by
  after_results
  rfl
theorem host4_r (V : Valuation τ sig (Elt F)) : StableHlo.after hostOps4 V (Proc.devRef .tc main_v15) = resultOf (V (Proc.devRef .tc main_v13)) := by
  after_results
  rfl

end Stretches

/-! ## From call to call -/

/-- The first call's array holds the heads' rows. -/
theorem projected {x : FVec Ideal S4x4096x1024 .f32} {w : Fin 3 → FVec Ideal S1024x1024 .f32} {X : Fin 4 → Fin 4096 → Fin 1024 → ℝ}
    {W : ℕ → Fin 1024 → Fin 1024 → ℝ} (hX : ∀ b s i, (x (ix3 b s i) : EReal) = ((X b s i : ℝ) : EReal))
    (hW : ∀ (u : Fin 3) (j i : Fin 1024), (w u (ix2 j i) : EReal) = ((W u.val j i : ℝ) : EReal)) :
    Projected (fun u hd => headRows X (W u) hd)
      (fun i => ∑ k : Fin 1024, (rowsX x (ix2 (i 0) k) : EReal) * (weights (w 0) (w 1) (w 2) (ix2 k (i 1)) : EReal) : FVec Ideal S16384x3072 .bf16) := by
  intro y u hd n r e hu hhd hn h0 h1
  have hs : 32 * n + r.val / 4 < 4096 := by omega
  have hy : rowsAt (headRows X (W u) hd) (32 * n) r e = ∑ i, X (bat r) ⟨32 * n + r.val / 4, hs⟩ i * W u ⟨64 * hd + e.val, by omega⟩ i :=
    dif_pos ⟨hs, hhd⟩
  rw [hy, coe_sum]
  refine Fin.sum_fin_congr fun k => ?_
  rw [EReal.coe_mul, ← hX, ← hW ⟨u, hu⟩]
  refine congrArg₂ (· * ·) ((rowsX_at x (y 0) k).trans ?_) ((weights_at w k (y 1)).trans ?_)
  · exact congrArg x (congrArg₂ (fun b s => ix3 b s k) (Fin.ext (show (y 0).val % 4 = r.val % 4 by omega)) (Fin.ext (show (y 0).val / 4 = 32 * n + r.val / 4 by omega)))
  · have e1 : (⟨(y 1).val / 1024, Nat.div_lt_of_lt_mul (y 1).isLt⟩ : Fin 3) = ⟨u, hu⟩ := Fin.ext (show (y 1).val / 1024 = u by omega)
    refine (congrArg (fun v => w v _) e1).trans ?_
    exact congrArg (w ⟨u, hu⟩) (congrArg₂ ix2 (Fin.ext (show (y 1).val % 1024 = 64 * hd + e.val by omega)) rfl)

section Result

variable (m : (l : Loc nD τ sig) → Buf (Elt Ideal) l) (ρ : Dev nD → PrngReg) (c : Dev nD)

/-- The kernel's result where its inputs are real. -/
theorem result_at {x : FVec Ideal S4x4096x1024 .f32} {w : Fin 3 → FVec Ideal S1024x1024 .f32} {wo : FVec Ideal S1024x1024 .f32}
    {X : Fin 4 → Fin 4096 → Fin 1024 → ℝ} {W : ℕ → Fin 1024 → Fin 1024 → ℝ}
    (h0 : m ((c : Thread nD τ).loc main_arg0) = x) (h1 : m ((c : Thread nD τ).loc main_arg1) = w 0) (h2 : m ((c : Thread nD τ).loc main_arg2) = w 1)
    (h3 : m ((c : Thread nD τ).loc main_arg3) = w 2) (h4 : m ((c : Thread nD τ).loc main_arg4) = wo)
    (hX : ∀ b s i, (x (ix3 b s i) : EReal) = ((X b s i : ℝ) : EReal))
    (hW : ∀ (u : Fin 3) (j i : Fin 1024), (w u (ix2 j i) : EReal) = ((W u.val j i : ℝ) : EReal)) :
    W7 m ρ c (Proc.devRef .tc main_v15)
      = resultOf (fun i => ∑ k : Fin 1024, (answers (fun u hd => headRows X (W u) hd) (ix2 (i 0) k) : EReal) * (weightO wo (ix2 k (i 1)) : EReal)
          : FVec Ideal S16384x1024 .f32) := by
  have e2 : W1 m ρ c (Proc.devRef .tc main_v2) = rowsX x :=
    (host0_x (W0 m ρ c)).trans (congrArg rowsX h0)
  have e7 : W1 m ρ c (Proc.devRef .tc main_v7) = weights (w 0) (w 1) (w 2) := by
    refine (host0_w (W0 m ρ c)).trans ?_
    rw [← h1, ← h2, ← h3]
  have e8 := (W2_arr m ρ c 2).trans (arr0 (V1 m ρ) c (rowsX x) (weights (w 0) (w 1) (w 2)) e2 e7)
  have hP := projected hX hW
  have e9 := (W3_arr m ρ c 2).trans (arr1 (V2 m ρ) c _ e8)
  have e8' := (W3_of m ρ c main_v8 (by decide)).trans e8
  have e10 := (W4_arr m ρ c 6).trans (arr2 (V := V3 m ρ) (c := c) _ _ e8' e9 hP (solved_of hP))
  have e10' := (W5_of m ρ c main_v10 (by decide)).trans e10
  have e12 : W5 m ρ c (Proc.devRef .tc main_v12) = weightO wo :=
    (host3_w (W4 m ρ c)).trans (congrArg weightO ((W4_args m ρ c main_arg4 (by decide)).trans h4))
  have e13 := (W6_arr m ρ c 2).trans (arr3 (V5 m ρ) c _ _ e10' e12)
  exact (host4_r (W6 m ρ c)).trans (congrArg resultOf e13)

end Result

theorem result_entry (R : ℕ → ℕ → Rows) (wo : FVec Ideal S1024x1024 .f32) (b : Fin 4) (s : Fin 4096) (j : Fin 1024) :
    (resultOf (fun i => ∑ k : Fin 1024, (answers R (ix2 (i 0) k) : EReal) * (weightO wo (ix2 k (i 1)) : EReal)
          : FVec Ideal S16384x1024 .f32) (ix3 b s j) : EReal)
      = ∑ i : Fin 1024, ((ans rate (R 1 (i.val / 64)) (R 2 (i.val / 64)) (R 0 (i.val / 64)) s.val b ⟨i.val % 64, Nat.mod_lt _ (by decide)⟩ : ℝ) : EReal)
          * (wo (ix2 j i) : EReal) := by
  refine (resultOf_at _ b s j).trans (Fin.sum_fin_congr fun i => ?_)
  refine congrArg₂ (· * ·) ?_ (weightO_at wo i j)
  have e1 : (4 * s.val + b.val) / 4 = s.val := by omega
  have e2 : (⟨(4 * s.val + b.val) % 4, Nat.mod_lt _ (by decide)⟩ : Fin 4) = b := Fin.ext (show (4 * s.val + b.val) % 4 = b.val by omega)
  show ((ans rate (R 1 (i.val / 64)) (R 2 (i.val / 64)) (R 0 (i.val / 64)) ((4 * s.val + b.val) / 4) ⟨(4 * s.val + b.val) % 4, Nat.mod_lt _ (by decide)⟩
    ⟨i.val % 64, Nat.mod_lt _ (by decide)⟩ : ℝ) : EReal) = _
  rw [e1, e2]

end Cert.KernelIdeal.Whole

end
-- ==== Proof.Value.Scan.lean ====
/-
  The reference's value over the extended reals: where its inputs are real, its carried memory is the delta rule's
  memory of each head and its answers are the delta rule's answers.
-/
module

public import proofs.«01_k».proof.Proof.ReferenceIdeal.Run
public import proofs.«01_k».proof.Proof.Value.Heads
public import Idealize.ShloMosaic.Lib.Pointwise

@[expose] public section

set_option maxRecDepth 16384

noncomputable section

namespace Cert.ReferenceIdeal.Scan

open Cert.ReferenceIdeal.Gen Cert.ReferenceIdeal
open Idealize.ShloMosaic Cert.Delta

/-- The counter is the step's number. -/
theorem iv_nat : ∀ k : ℕ, Scf.iv 0#32 1#32 k = BitVec.ofNat 32 k
  | 0 => Scf.iv_zero 0#32 1#32
  | k + 1 => by
    rw [Scf.iv_succ, iv_nat k]
    exact (BitVec.ofNat_add k 1).symm

theorem iv_toInt (k : ℕ) (hk : k < 4096) : (Scf.iv 0#32 1#32 k).toInt = (k : ℤ) := by
  rw [iv_nat, BitVec.toInt_eq_toNat_of_lt (by rw [BitVec.toNat_ofNat]; omega), BitVec.toNat_ofNat]
  omega

/-- A projected array holds each head's rows. -/
theorem proj_at {X : FVec Ideal S4x4096x1024 .f32} {W : FVec Ideal S1024x1024 .f32} {x : Fin 4 → Fin 4096 → Fin 1024 → ℝ} {w : Fin 1024 → Fin 1024 → ℝ}
    (hX : ∀ b s i, (X (ix3 b s i) : EReal) = ((x b s i : ℝ) : EReal)) (hW : ∀ j i, (W (ix2 j i) : EReal) = ((w j i : ℝ) : EReal))
    (s : Fin 4096) (b : Fin 4) (h : Fin 16) (e : Fin 64) :
    (proj X W (ix4 s b h e) : EReal) = ((headRows x w h.val s.val b e : ℝ) : EReal) := by
  rw [headRows_of x w h s]
  pointwise [proj]
  rw [coe_sum]
  refine Finset.sum_congr rfl fun i _ => ?_
  have hj : (⟨h.val * 64 + e.val, by omega⟩ : Fin 1024) = ⟨64 * h.val + e.val, by omega⟩ := Fin.ext (by show h.val * 64 + e.val = 64 * h.val + e.val; omega)
  rw [hX, hW, hj, EReal.coe_mul]

/-- A step's starts: the step, then zeros. -/
structure Starts (st : Fin 4 → ℤ) (k : ℕ) : Prop where
  c0 : st 0 = (k : ℤ)
  c1 : st 1 = ((0 : ℕ) : ℤ)
  c2 : st 2 = ((0 : ℕ) : ℤ)
  c3 : st 3 = ((0 : ℕ) : ℤ)

theorem starts_ctr (k : ℕ) (hk : k < 4096) : Starts (fun a => (operands (ctr k) a (Shape.Idx.first h_S_)).toInt) k :=
  ⟨iv_toInt k hk, rfl, rfl, rfl⟩

theorem rowAt_at (x : FVec Ideal S4096x4x16x64 .f32) {st : Fin 4 → ℤ} {k : ℕ} (hs : Starts st k) (hk : k < 4096) (b : Fin 4) (h : Fin 16) (e : Fin 64) :
    rowAt x st (ix3 b h e) = x (ix4 ⟨k, hk⟩ b h e) := by
  have c0 := Host.clampedStart_of_le (s := S4096x4x16x64) (t := S1x4x16x64) rfl st 0 k hs.c0 (by show k + 1 ≤ 4096; omega)
  have c1 := Host.clampedStart_of_le (s := S4096x4x16x64) (t := S1x4x16x64) rfl st 1 0 hs.c1 (by decide)
  have c2 := Host.clampedStart_of_le (s := S4096x4x16x64) (t := S1x4x16x64) rfl st 2 0 hs.c2 (by decide)
  have c3 := Host.clampedStart_of_le (s := S4096x4x16x64) (t := S1x4x16x64) rfl st 3 0 hs.c3 (by decide)
  pointwise [rowAt]
  simp only [c0, c1, c2, c3, Nat.zero_add, Nat.add_zero]

theorem putRowAt_at (x : FVec Ideal S4096x4x16x64 .f32) (u : FVec Ideal S4x16x64 .f32) {st : Fin 4 → ℤ} {k : ℕ} (hs : Starts st k) (hk : k < 4096)
    (s : Fin 4096) (b : Fin 4) (h : Fin 16) (e : Fin 64) :
    putRowAt x u st (ix4 s b h e) = if s.val = k then u (ix3 b h e) else x (ix4 s b h e) := by
  have c0 := Host.clampedStart_of_le (s := S4096x4x16x64) (t := S1x4x16x64) rfl st 0 k hs.c0 (by show k + 1 ≤ 4096; omega)
  have c1 := Host.clampedStart_of_le (s := S4096x4x16x64) (t := S1x4x16x64) rfl st 1 0 hs.c1 (by decide)
  have c2 := Host.clampedStart_of_le (s := S4096x4x16x64) (t := S1x4x16x64) rfl st 2 0 hs.c2 (by decide)
  have c3 := Host.clampedStart_of_le (s := S4096x4x16x64) (t := S1x4x16x64) rfl st 3 0 hs.c3 (by decide)
  pointwise [putRowAt]
  simp only [c0, c1, c2, c3, Nat.sub_zero, Nat.zero_le, true_and, Nat.zero_add]
  split_ifs <;> first | rfl | omega

/-- A row read at a step. -/
theorem row_at (x : FVec Ideal S4096x4x16x64 .f32) (k : ℕ) (hk : k < 4096) (b : Fin 4) (h : Fin 16) (e : Fin 64) :
    row x (ctr k) (ix3 b h e) = x (ix4 ⟨k, hk⟩ b h e) := rowAt_at x (starts_ctr k hk) hk b h e

/-- A row written at a step. -/
theorem putRow_at (x : FVec Ideal S4096x4x16x64 .f32) (u : FVec Ideal S4x16x64 .f32) (k : ℕ) (hk : k < 4096) (s : Fin 4096) (b : Fin 4) (h : Fin 16) (e : Fin 64) :
    putRow x (ctr k) u (ix4 s b h e) = if s.val = k then u (ix3 b h e) else x (ix4 s b h e) :=
  putRowAt_at x u (starts_ctr k hk) hk s b h e

theorem answer_at {M : FVec Ideal S16x64x64 .f32} {q : FVec Ideal S4x16x64 .f32} {N : Fin 16 → Fin 64 → Fin 64 → ℝ} {f : Fin 4 → Fin 16 → Fin 64 → ℝ}
    (hM : ∀ h d e, (M (ix3 h d e) : EReal) = ((N h d e : ℝ) : EReal)) (hq : ∀ b h e, (q (ix3 b h e) : EReal) = ((f b h e : ℝ) : EReal))
    (b : Fin 4) (h : Fin 16) (d : Fin 64) :
    (answer M q (ix3 b h d) : EReal) = ((∑ e, f b h e * N h d e : ℝ) : EReal) := by
  pointwise [answer]
  rw [coe_sum]
  exact Finset.sum_congr rfl fun e _ => by rw [hq, hM, EReal.coe_mul]

theorem rate_val : Ideal.ofBits .f32 0x3DCCCCCD#32 = ((rate : ℝ) : EReal) := by
  simp [Ideal.ofBits, Ideal.ieee, -EReal.coe_mul]
  norm_num

theorem four_val : Ideal.ofBits .f32 0x40800000#32 = ((4 : ℝ) : EReal) := by
  simp [Ideal.ofBits, Ideal.ieee, -EReal.coe_mul]
  norm_num

theorem newM_at {M : FVec Ideal S16x64x64 .f32} {k v : FVec Ideal S4x16x64 .f32} {N : Fin 16 → Fin 64 → Fin 64 → ℝ} {f g : Fin 4 → Fin 16 → Fin 64 → ℝ}
    (hM : ∀ h d e, (M (ix3 h d e) : EReal) = ((N h d e : ℝ) : EReal)) (hk : ∀ b h e, (k (ix3 b h e) : EReal) = ((f b h e : ℝ) : EReal))
    (hv : ∀ b h e, (v (ix3 b h e) : EReal) = ((g b h e : ℝ) : EReal)) (h : Fin 16) (d e : Fin 64) :
    (newM M k v (ix3 h d e) : EReal) = ((N h d e + rate * ((∑ b : Fin 4, (g b h d - ∑ e', f b h e' * N h d e') * f b h e) / 4) : ℝ) : EReal) := by
  have ha := fun b => answer_at hM hk b h d
  pointwise [newM]
  rw [rate_val, four_val, Ideal.div_coe (by norm_num), hM]
  have hs : (∑ x : Fin 4, ((v (ix3 x h d) : EReal) - (answer M k (ix3 x h d) : EReal)) * (k (ix3 x h e) : EReal))
      = ((∑ b : Fin 4, (g b h d - ∑ e', f b h e' * N h d e') * f b h e : ℝ) : EReal) := by
    rw [coe_sum]
    refine Finset.sum_congr rfl fun b _ => ?_
    rw [ha, hv, hk, ← EReal.coe_sub, ← EReal.coe_mul]
  refine (congrArg (fun z : EReal => ((N h d e : ℝ) : EReal) + ((rate : ℝ) : EReal) * (z * ((1 / 4 : ℝ) : EReal))) hs).trans ?_
  rw [← EReal.coe_mul, ← EReal.coe_mul, ← EReal.coe_add, mul_one_div]

section Seq

variable {Q K U : FVec Ideal S4096x4x16x64 .f32} {q k v : ℕ → Rows}

/-- The arrays hold the heads' rows. -/
def Holds (X : FVec Ideal S4096x4x16x64 .f32) (f : ℕ → Rows) : Prop :=
  ∀ (s : Fin 4096) (b : Fin 4) (h : Fin 16) (e : Fin 64), (X (ix4 s b h e) : EReal) = ((f h.val s.val b e : ℝ) : EReal)

theorem memSeq_at (hK : Holds K k) (hU : Holds U v) : ∀ n : ℕ, n ≤ 4096 → ∀ (h : Fin 16) (d e : Fin 64),
    (memSeq K U n (ix3 h d e) : EReal) = ((mem rate (k h.val) (v h.val) n d e : ℝ) : EReal)
  | 0, _ => by
    intro h d e
    pointwise [memSeq]
    rfl
  | n + 1, hn => fun h d e => newM_at (N := fun h d e => mem rate (k h.val) (v h.val) n d e) (f := fun b h e => k h.val n b e) (g := fun b h e => v h.val n b e)
      (memSeq_at hK hU n (by omega))
      (fun b h e => ((row_at K n hn b h e)).trans (hK ⟨n, hn⟩ b h e))
      (fun b h e => ((row_at U n hn b h e)).trans (hU ⟨n, hn⟩ b h e)) h d e

theorem outSeq_at (hQ : Holds Q q) (hK : Holds K k) (hU : Holds U v) : ∀ n : ℕ, n ≤ 4096 → ∀ (s : Fin 4096), s.val < n → ∀ (b : Fin 4) (h : Fin 16) (d : Fin 64),
    (outSeq Q K U n (ix4 s b h d) : EReal) = ((ans rate (k h.val) (v h.val) (q h.val) s.val b d : ℝ) : EReal)
  | 0, _ => fun s hs => absurd hs (Nat.not_lt_zero _)
  | n + 1, hn => by
    intro s hs b h d
    have hp := putRow_at (outSeq Q K U n) (answer (memSeq K U (n + 1)) (row Q (ctr n))) n hn s b h d
    refine hp.trans ?_
    split_ifs with hc
    · have ha := answer_at (N := fun h d e => mem rate (k h.val) (v h.val) (n + 1) d e) (f := fun b h e => q h.val n b e)
        (memSeq_at hK hU (n + 1) hn) (fun b h e => ((row_at Q n hn b h e)).trans (hQ ⟨n, hn⟩ b h e)) b h d
      refine ha.trans ?_
      rw [hc]
      rfl
    · exact outSeq_at hQ hK hU n (by omega) s (by omega) b h d

end Seq

/-- The reference's result. -/
theorem project_at {o : FVec Ideal S4096x4x16x64 .f32} {f : Fin 4 → Fin 4096 → ℕ → Fin 64 → ℝ} (wo : FVec Ideal S1024x1024 .f32)
    (ho : ∀ (s : Fin 4096) (b : Fin 4) (h : Fin 16) (d : Fin 64), (o (ix4 s b h d) : EReal) = ((f b s h.val d : ℝ) : EReal)) (b : Fin 4) (s : Fin 4096) (j : Fin 1024) :
    (project o wo (ix3 b s j) : EReal)
      = ∑ i : Fin 1024, ((f b s (i.val / 64) ⟨i.val % 64, Nat.mod_lt _ (by decide)⟩ : ℝ) : EReal) * (wo (ix2 j i) : EReal) := by
  pointwise [project]
  exact Finset.sum_congr rfl fun i _ => by rw [ho]

end Cert.ReferenceIdeal.Scan

end
-- ==== Proof.Value.Equal.lean ====
/-
  The two results are equal where the input and the first three weights are finite.
-/
module

public import proofs.«01_k».proof.Defs
public import proofs.«01_k».proof.Proof.Value.Hosts
public import proofs.«01_k».proof.Proof.Value.Scan

@[expose] public section

set_option maxRecDepth 16384

noncomputable section

namespace Cert.Equal

open Idealize.ShloMosaic Cert.Delta

/-- An extended real whose absolute value is below infinity is real. -/
theorem real_of (x : EReal) (h : FloatOps.cmpf (F := Ideal) (φ := .f32) .olt (FloatOps.hostAbsf (F := Ideal) (φ := .f32) x) (Ideal.ofBits .f32 0x7F800000#32) = 1#1) :
    x = ((x.toReal : ℝ) : EReal) := by
  have ht : Ideal.ofBits .f32 0x7F800000#32 = (⊤ : EReal) := by
    simp [Ideal.ofBits, Ideal.ieee]
  rw [ht] at h
  have top_not : ¬ FloatOps.cmpf (F := Ideal) (φ := .f32) .olt (⊤ : EReal) (⊤ : EReal) = 1#1 := by
    simp [Ideal.cmpf_def, Ideal.cmp]
  induction x with
  | bot =>
    have e : FloatOps.hostAbsf (F := Ideal) (φ := .f32) (⊥ : EReal) = (⊤ : EReal) := by
      show max (⊥ : EReal) (-⊥) = ⊤
      simp
    rw [e] at h
    exact absurd h top_not
  | top =>
    have e : FloatOps.hostAbsf (F := Ideal) (φ := .f32) (⊤ : EReal) = (⊤ : EReal) := by
      show max (⊤ : EReal) (-⊤) = ⊤
      simp
    rw [e] at h
    exact absurd h top_not
  | coe r => rfl

section Pre

variable [Cert.Pre_finite.Facts]

theorem finite_at (a0 : FVec Ideal Cert.Pre_finite.S4x4096x1024 .f32) (a1 a2 a3 a4 : FVec Ideal Cert.Pre_finite.S1024x1024 .f32)
    (h0 : (Cert.Pre_finite.fn (F := Ideal) a0 a1 a2 a3 a4).1 = fun _ => 1#1)
    (h1 : (Cert.Pre_finite.fn (F := Ideal) a0 a1 a2 a3 a4).2.1 = fun _ => 1#1)
    (h2 : (Cert.Pre_finite.fn (F := Ideal) a0 a1 a2 a3 a4).2.2.1 = fun _ => 1#1)
    (h3 : (Cert.Pre_finite.fn (F := Ideal) a0 a1 a2 a3 a4).2.2.2 = fun _ => 1#1) :
    (∀ b s i, (a0 (ix3 b s i) : EReal) = (((a0 (ix3 b s i) : EReal).toReal : ℝ) : EReal))
      ∧ (∀ j i, (a1 (ix2 j i) : EReal) = (((a1 (ix2 j i) : EReal).toReal : ℝ) : EReal))
      ∧ (∀ j i, (a2 (ix2 j i) : EReal) = (((a2 (ix2 j i) : EReal).toReal : ℝ) : EReal))
      ∧ (∀ j i, (a3 (ix2 j i) : EReal) = (((a3 (ix2 j i) : EReal).toReal : ℝ) : EReal)) :=
  ⟨fun b s i => real_of _ (congrFun h0 (ix3 b s i)), fun j i => real_of _ (congrFun h1 (ix2 j i)),
    fun j i => real_of _ (congrFun h2 (ix2 j i)), fun j i => real_of _ (congrFun h3 (ix2 j i))⟩

end Pre

/-- The kernel's result is the reference's, as functions of the arguments. -/
theorem results (x : FVec Ideal Cert.KernelIdeal.S4x4096x1024 .f32) (w : Fin 3 → FVec Ideal Cert.KernelIdeal.S1024x1024 .f32)
    (wo : FVec Ideal Cert.KernelIdeal.S1024x1024 .f32) {X : Fin 4 → Fin 4096 → Fin 1024 → ℝ} {W : ℕ → Fin 1024 → Fin 1024 → ℝ}
    (hX : ∀ b s i, (x (ix3 b s i) : EReal) = ((X b s i : ℝ) : EReal))
    (hW : ∀ (u : Fin 3) (j i : Fin 1024), (w u (ix2 j i) : EReal) = ((W u.val j i : ℝ) : EReal)) :
    (Cert.KernelIdeal.Whole.resultOf (fun i => ∑ k : Fin 1024, (Cert.KernelIdeal.Whole.answers (fun u hd => headRows X (W u) hd) (ix2 (i 0) k) : EReal)
        * (Cert.KernelIdeal.Whole.weightO wo (ix2 k (i 1)) : EReal) : FVec Ideal Cert.KernelIdeal.S16384x1024 .f32) : FVec Ideal Cert.KernelIdeal.S4x4096x1024 .f32)
      = (Cert.ReferenceIdeal.Scan.project (Cert.ReferenceIdeal.Scan.scanOut x (w 0) (w 1) (w 2)) wo : FVec Ideal Cert.ReferenceIdeal.S4x4096x1024 .f32) := by
  funext y
  have hp := fun u : Fin 3 => Cert.ReferenceIdeal.Scan.proj_at hX (hW u)
  have ho := Cert.ReferenceIdeal.Scan.outSeq_at (q := headRows X (W 0)) (k := headRows X (W 1)) (v := headRows X (W 2)) (hp 0) (hp 1) (hp 2) 4096 (le_refl _)
  have hr := fun b s j => Cert.ReferenceIdeal.Scan.project_at
    (f := fun b s h d => ans rate (headRows X (W 1) h) (headRows X (W 2) h) (headRows X (W 0) h) s.val b d) wo (fun s b h d => ho s s.isLt b h d) b s j
  rw [eq_ix3 y]
  exact (Cert.KernelIdeal.Whole.result_entry _ wo (y 0) (y 1) (y 2)).trans (hr (y 0) (y 1) (y 2)).symm

/-- The three weights of the projections. -/
def three (wq wk wv : FVec Ideal Cert.KernelIdeal.S1024x1024 .f32) : Fin 3 → FVec Ideal Cert.KernelIdeal.S1024x1024 .f32 := ![wq, wk, wv]

section Runs

variable [Cert.Pre_finite.Facts]
  (m : (l : Loc Cert.KernelIdeal.nD Cert.KernelIdeal.τ Cert.KernelIdeal.sig) → Buf (Elt Ideal) l) (ρ : Dev Cert.KernelIdeal.nD → PrngReg)

/-- The kernel's result is the reference's expression over the kernel's arguments. -/
theorem kernel_result (h : Cert.Pre_KernelIdeal_finite m) (c : Dev Cert.KernelIdeal.nD) :
    (Cert.KernelIdeal.Whole.W7 m ρ c (Proc.devRef .tc Cert.KernelIdeal.main_v15) : FVec Ideal Cert.KernelIdeal.S4x4096x1024 .f32)
      = (Cert.ReferenceIdeal.Scan.project (Cert.ReferenceIdeal.Scan.scanOut (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) (m ((c.tc : Thread Cert.KernelIdeal.nD Cert.KernelIdeal.τ).loc Cert.KernelIdeal.main_arg2))
          (m ((c.tc : Thread Cert.KernelIdeal.nD Cert.KernelIdeal.τ).loc Cert.KernelIdeal.main_arg3)))
        (m ((c.tc : Thread Cert.KernelIdeal.nD Cert.KernelIdeal.τ).loc Cert.KernelIdeal.main_arg4)) : FVec Ideal Cert.ReferenceIdeal.S4x4096x1024 .f32) := by
  obtain ⟨h0, h1, h2, h3⟩ := h c
  obtain ⟨hx, hq, hk, hv⟩ := finite_at _ _ _ _ _ h0 h1 h2 h3
  generalize e0 : m ((c.tc : Thread Cert.KernelIdeal.nD Cert.KernelIdeal.τ).loc Cert.KernelIdeal.main_arg0) = x at hx ⊢
  generalize e1 : m ((c.tc : Thread Cert.KernelIdeal.nD Cert.KernelIdeal.τ).loc Cert.KernelIdeal.main_arg1) = wq at hq ⊢
  generalize e2 : m ((c.tc : Thread Cert.KernelIdeal.nD Cert.KernelIdeal.τ).loc Cert.KernelIdeal.main_arg2) = wk at hk ⊢
  generalize e3 : m ((c.tc : Thread Cert.KernelIdeal.nD Cert.KernelIdeal.τ).loc Cert.KernelIdeal.main_arg3) = wv at hv ⊢
  generalize e4 : m ((c.tc : Thread Cert.KernelIdeal.nD Cert.KernelIdeal.τ).loc Cert.KernelIdeal.main_arg4) = wo
  have hW : ∀ (u : Fin 3) (j i : Fin 1024), (three wq wk wv u (ix2 j i) : EReal)
      = (((three wq wk wv ⟨u.val % 3, Nat.mod_lt _ (by decide)⟩ (ix2 j i) : EReal).toReal : ℝ) : EReal) := by
    intro u
    fin_cases u
    · exact hq
    · exact hk
    · exact hv
  exact (Cert.KernelIdeal.Whole.result_at m ρ c (w := three wq wk wv) (X := fun b s i => (x (ix3 b s i) : EReal).toReal)
      (W := fun u j i => (three wq wk wv ⟨u % 3, Nat.mod_lt _ (by decide)⟩ (ix2 j i) : EReal).toReal) e0 e1 e2 e3 e4 hx hW).trans
    (results x (three wq wk wv) wo hx hW)

end Runs

/-- The two programs' results are equal. -/
theorem algebraic [Cert.Pre_finite.Facts] :
    Cert.algebraic_KernelIdeal_ReferenceIdeal_pre_finite (hKernelIdeal := Cert.KernelIdeal.Gen.facts) (hReferenceIdeal := Cert.ReferenceIdeal.Gen.facts) := by
  intro m g m' g' h ha
  refine ⟨fun c => Cert.KernelIdeal.Whole.W7 m g c (Proc.devRef .tc Cert.KernelIdeal.main_v15), ?_, ?_⟩
  · refine (θ_run _ _ _).mono (fun r hr c => ?_) (Cert.KernelIdeal.Whole.run m g)
    exact ⟨hr.1 c _ (Cert.KernelIdeal.Whole.mem_uc Cert.KernelIdeal.main_v15 (by decide)),
      (hr.1 c _ (Cert.KernelIdeal.Whole.mem_uc Cert.KernelIdeal.main_arg0 (by decide))).trans (Cert.KernelIdeal.Whole.W7_main_arg0 m g c),
      (hr.1 c _ (Cert.KernelIdeal.Whole.mem_uc Cert.KernelIdeal.main_arg1 (by decide))).trans (Cert.KernelIdeal.Whole.W7_main_arg1 m g c),
      (hr.1 c _ (Cert.KernelIdeal.Whole.mem_uc Cert.KernelIdeal.main_arg2 (by decide))).trans (Cert.KernelIdeal.Whole.W7_main_arg2 m g c),
      (hr.1 c _ (Cert.KernelIdeal.Whole.mem_uc Cert.KernelIdeal.main_arg3 (by decide))).trans (Cert.KernelIdeal.Whole.W7_main_arg3 m g c),
      (hr.1 c _ (Cert.KernelIdeal.Whole.mem_uc Cert.KernelIdeal.main_arg4 (by decide))).trans (Cert.KernelIdeal.Whole.W7_main_arg4 m g c)⟩
  · refine (θ_run _ _ _).mono (fun r hr c => ⟨?_, hr.2.1 c⟩) (Cert.ReferenceIdeal.Scan.run_out m' g')
    obtain ⟨a0, a1, a2, a3, a4⟩ := ha c
    refine (hr.1 c).trans (Eq.trans ?_ (kernel_result m g h c).symm)
    rw [a0, a1, a2, a3, a4]

end Cert.Equal

end
-- ==== Proof.lean ====
module

public import proofs.«01_k».proof.Defs
public import proofs.«01_k».proof.Proof.Kernel.Whole
public import proofs.«01_k».proof.Proof.KernelIdeal.Whole
public import proofs.«01_k».proof.Proof.ReferenceIdeal.Run
public import proofs.«01_k».proof.Proof.Value.Equal

@[expose] public section

open Idealize.ShloMosaic

namespace Cert.Proof

/-- The shapes the precondition broadcasts to are broadcasts of a scalar. -/
theorem pre_facts : Cert.Pre_finite.Facts := ⟨by decide, by decide⟩

/-- The idealized reference runs to its end from any memory and leaves its arguments unchanged. -/
theorem reference_frame : Cert.quiescent_ReferenceIdeal (hReferenceIdeal := Cert.ReferenceIdeal.Gen.facts) :=
  fun m g _ => (θ_run _ _ _).mono (fun _ h => h.2) (Cert.ReferenceIdeal.Scan.run_out m g)

/-- Every claim of the certificate. -/
theorem claim : Cert.Claim :=
  ⟨Cert.Kernel.Gen.facts, Cert.KernelIdeal.Gen.facts, Cert.ReferenceIdeal.Gen.facts, pre_facts,
    fun m g _ => Cert.Kernel.Whole.frame m g,
    fun m g _ => Cert.KernelIdeal.Whole.frame m g,
    fun m g _ => Cert.KernelIdeal.Whole.frame m g,
    reference_frame,
    fun m g _ => (θ_run _ _ _).mono (fun _ h => h.2) (Cert.ReferenceIdeal.Scan.run_out m g),
    IdealRules.named_const.statement Cert.KernelIdeal.κ "sqrt_beta" .bf16 0x3E22#16 ((Real.sqrt (13421773 / 536870912) : ℝ) : EReal) rfl,
    @Cert.Equal.algebraic pre_facts⟩

end Cert.Proof

end
